-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x1024x12288 : Shape := ⟨3, ![6, 1024, 12288]⟩
abbrev S4608x6144 : Shape := ⟨2, ![4608, 6144]⟩
abbrev S4608x384 : Shape := ⟨2, ![4608, 384]⟩
abbrev S6144x12288 : Shape := ⟨2, ![6144, 12288]⟩
abbrev S6144x4608 : Shape := ⟨2, ![6144, 4608]⟩
abbrev S256x12288 : Shape := ⟨2, ![256, 12288]⟩
abbrev S512x6144 : Shape := ⟨2, ![512, 6144]⟩
abbrev S512x384 : Shape := ⟨2, ![512, 384]⟩
abbrev S256x512 : Shape := ⟨2, ![256, 512]⟩
abbrev S12288x512 : Shape := ⟨2, ![12288, 512]⟩
abbrev S384x512 : Shape := ⟨2, ![384, 512]⟩
abbrev S512x128 : Shape := ⟨2, ![512, 128]⟩
abbrev S128x512 : Shape := ⟨2, ![128, 512]⟩
abbrev S8x512 : Shape := ⟨2, ![8, 512]⟩
abbrev S16x512 : Shape := ⟨2, ![16, 512]⟩
abbrev S1x512 : Shape := ⟨2, ![1, 512]⟩
abbrev S32x512 : Shape := ⟨2, ![32, 512]⟩
abbrev S6x1024x4608 : Shape := ⟨3, ![6, 1024, 4608]⟩

abbrev nBuf : Space → Nat
  | .hbm => 6
  | .vmem => 10
  | .smem => 0
  | _ => 0

abbrev bufTy : (tb : Table) → Fin (tcTables nBuf tb) → BufTy
  | .hbm, ⟨0, _⟩ => ⟨S6x1024x12288, .bf16⟩
  | .hbm, ⟨1, _⟩ => ⟨S4608x6144, .i8⟩
  | .hbm, ⟨2, _⟩ => ⟨S4608x384, .i8⟩
  | .hbm, ⟨3, _⟩ => ⟨S6144x12288, .bf16⟩
  | .hbm, ⟨4, _⟩ => ⟨S6144x4608, .bf16⟩
  | .hbm, ⟨5, _⟩ => ⟨S6x1024x4608, .bf16⟩
  | .local _ .vmem, ⟨0, _⟩ => ⟨S256x12288, .bf16⟩
  | .local _ .vmem, ⟨1, _⟩ => ⟨S256x12288, .bf16⟩
  | .local _ .vmem, ⟨2, _⟩ => ⟨S512x6144, .i8⟩
  | .local _ .vmem, ⟨3, _⟩ => ⟨S512x6144, .i8⟩
  | .local _ .vmem, ⟨4, _⟩ => ⟨S512x384, .i8⟩
  | .local _ .vmem, ⟨5, _⟩ => ⟨S512x384, .i8⟩
  | .local _ .vmem, ⟨6, _⟩ => ⟨S256x512, .bf16⟩
  | .local _ .vmem, ⟨7, _⟩ => ⟨S256x512, .bf16⟩
  | .local _ .vmem, ⟨8, _⟩ => ⟨S12288x512, .bf16⟩
  | .local _ .vmem, ⟨9, _⟩ => ⟨S384x512, .i32⟩
  | _, _ => ⟨S6x1024x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![9, 24], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_20 : BitVec 32 := 0#32
  let c48_i32 : BitVec 32 := 48#32
  let v42 : BitVec 32 := Scalar.addi c0_i32_20 c48_i32
  let c1_i32 : BitVec 32 := 1#32
  ⟨c0_i32_20, v42, c1_i32⟩
def k0_mult1 (k0_t1 : Fin k0_t1_loop.trips) : BitVec 32 :=
  let c0_i32_23 : BitVec 32 := 0#32
  let c0_i32_20 : BitVec 32 := 0#32
  let c1_i32 : BitVec 32 := 1#32
  let arg8 : BitVec 32 := Scf.iv c0_i32_20 c1_i32 k0_t1
  let c1_i32_22 : BitVec 32 := 1#32
  let v43 : BitVec 32 := Scalar.muli arg8 c1_i32_22
  let v44 : BitVec 32 := Scalar.addi c0_i32_23 v43
  let c128_i32 : BitVec 32 := 128#32
  let v45 : BitVec 32 := Scalar.muli v44 c128_i32
  v45
def k0_off1 (k0_t1 : Fin k0_t1_loop.trips) : Fin 2 → Nat :=
  let c0_24 : Index := 0#32
  let c0_i32_23 : BitVec 32 := 0#32
  let c0_i32_20 : BitVec 32 := 0#32
  let c1_i32 : BitVec 32 := 1#32
  let arg8 : BitVec 32 := Scf.iv c0_i32_20 c1_i32 k0_t1
  let c1_i32_22 : BitVec 32 := 1#32
  let v43 : BitVec 32 := Scalar.muli arg8 c1_i32_22
  let v44 : BitVec 32 := Scalar.addi c0_i32_23 v43
  let c128_i32 : BitVec 32 := 128#32
  let v45 : BitVec 32 := Scalar.muli v44 c128_i32
  let v46 : BitVec 32 := v45
  let v47 : Index := Scalar.indexCast v46
  ![0, v47.toNat]
def k0_mult2 (k0_t1 : Fin k0_t1_loop.trips) : BitVec 32 :=
  let c0_i32_23 : BitVec 32 := 0#32
  let c0_i32_20 : BitVec 32 := 0#32
  let c1_i32 : BitVec 32 := 1#32
  let arg8 : BitVec 32 := Scf.iv c0_i32_20 c1_i32 k0_t1
  let c1_i32_22 : BitVec 32 := 1#32
  let v43 : BitVec 32 := Scalar.muli arg8 c1_i32_22
  let v44 : BitVec 32 := Scalar.addi c0_i32_23 v43
  let c8_i32 : BitVec 32 := 8#32
  let v51 : BitVec 32 := Scalar.muli v44 c8_i32
  v51
def k0_off2 (k0_t1 : Fin k0_t1_loop.trips) : Fin 2 → Nat :=
  let c0_i32_23 : BitVec 32 := 0#32
  let c0_i32_20 : BitVec 32 := 0#32
  let c1_i32 : BitVec 32 := 1#32
  let arg8 : BitVec 32 := Scf.iv c0_i32_20 c1_i32 k0_t1
  let c1_i32_22 : BitVec 32 := 1#32
  let v43 : BitVec 32 := Scalar.muli arg8 c1_i32_22
  let v44 : BitVec 32 := Scalar.addi c0_i32_23 v43
  let c8_i32 : BitVec 32 := 8#32
  let v51 : BitVec 32 := Scalar.muli v44 c8_i32
  let v52 : BitVec 32 := v51
  let v53 : Index := Scalar.indexCast v52
  let c0_25 : Index := 0#32
  ![v53.toNat, 0]
def k0_mult3 (k0_t1 : Fin k0_t1_loop.trips) : BitVec 32 :=
  let c0_i32_23 : BitVec 32 := 0#32
  let c0_i32_20 : BitVec 32 := 0#32
  let c1_i32 : BitVec 32 := 1#32
  let arg8 : BitVec 32 := Scf.iv c0_i32_20 c1_i32 k0_t1
  let c1_i32_22 : BitVec 32 := 1#32
  let v43 : BitVec 32 := Scalar.muli arg8 c1_i32_22
  let v44 : BitVec 32 := Scalar.addi c0_i32_23 v43
  let c256_i32 : BitVec 32 := 256#32
  let v59 : BitVec 32 := Scalar.muli v44 c256_i32
  let c0_i32_26 : BitVec 32 := 0#32
  let v60 : BitVec 32 := Scalar.addi v59 c0_i32_26
  v60
def k0_off3 (k0_t1 : Fin k0_t1_loop.trips) (c0_i32_26 : BitVec 32) : Fin 2 → Nat :=
  let c0_i32_23 : BitVec 32 := 0#32
  let c0_i32_20 : BitVec 32 := 0#32
  let c1_i32 : BitVec 32 := 1#32
  let arg8 : BitVec 32 := Scf.iv c0_i32_20 c1_i32 k0_t1
  let c1_i32_22 : BitVec 32 := 1#32
  let v43 : BitVec 32 := Scalar.muli arg8 c1_i32_22
  let v44 : BitVec 32 := Scalar.addi c0_i32_23 v43
  let c256_i32 : BitVec 32 := 256#32
  let v59 : BitVec 32 := Scalar.muli v44 c256_i32
  let v60 : BitVec 32 := Scalar.addi v59 c0_i32_26
  let v61 : BitVec 32 := v60
  let v88 : Index := Scalar.indexCast v61
  let c0_29 : Index := 0#32
  ![v88.toNat, 0]
def k0_mult4 (k0_t1 : Fin k0_t1_loop.trips) : BitVec 32 :=
  let c0_i32_23 : BitVec 32 := 0#32
  let c0_i32_20 : BitVec 32 := 0#32
  let c1_i32 : BitVec 32 := 1#32
  let arg8 : BitVec 32 := Scf.iv c0_i32_20 c1_i32 k0_t1
  let c1_i32_22 : BitVec 32 := 1#32
  let v43 : BitVec 32 := Scalar.muli arg8 c1_i32_22
  let v44 : BitVec 32 := Scalar.addi c0_i32_23 v43
  let c256_i32_30 : BitVec 32 := 256#32
  let v96 : BitVec 32 := Scalar.muli v44 c256_i32_30
  let c32_i32 : BitVec 32 := 32#32
  let v97 : BitVec 32 := Scalar.addi v96 c32_i32
  v97
def k0_mult5 (k0_t1 : Fin k0_t1_loop.trips) : BitVec 32 :=
  let c0_i32_23 : BitVec 32 := 0#32
  let c0_i32_20 : BitVec 32 := 0#32
  let c1_i32 : BitVec 32 := 1#32
  let arg8 : BitVec 32 := Scf.iv c0_i32_20 c1_i32 k0_t1
  let c1_i32_22 : BitVec 32 := 1#32
  let v43 : BitVec 32 := Scalar.muli arg8 c1_i32_22
  let v44 : BitVec 32 := Scalar.addi c0_i32_23 v43
  let c256_i32_41 : BitVec 32 := 256#32
  let v133 : BitVec 32 := Scalar.muli v44 c256_i32_41
  let c64_i32 : BitVec 32 := 64#32
  let v134 : BitVec 32 := Scalar.addi v133 c64_i32
  v134
def k0_mult6 (k0_t1 : Fin k0_t1_loop.trips) : BitVec 32 :=
  let c0_i32_23 : BitVec 32 := 0#32
  let c0_i32_20 : BitVec 32 := 0#32
  let c1_i32 : BitVec 32 := 1#32
  let arg8 : BitVec 32 := Scf.iv c0_i32_20 c1_i32 k0_t1
  let c1_i32_22 : BitVec 32 := 1#32
  let v43 : BitVec 32 := Scalar.muli arg8 c1_i32_22
  let v44 : BitVec 32 := Scalar.addi c0_i32_23 v43
  let c256_i32_52 : BitVec 32 := 256#32
  let v170 : BitVec 32 := Scalar.muli v44 c256_i32_52
  let c96_i32 : BitVec 32 := 96#32
  let v171 : BitVec 32 := Scalar.addi v170 c96_i32
  v171
def k0_mult7 (k0_t1 : Fin k0_t1_loop.trips) : BitVec 32 :=
  let c0_i32_23 : BitVec 32 := 0#32
  let c0_i32_20 : BitVec 32 := 0#32
  let c1_i32 : BitVec 32 := 1#32
  let arg8 : BitVec 32 := Scf.iv c0_i32_20 c1_i32 k0_t1
  let c1_i32_22 : BitVec 32 := 1#32
  let v43 : BitVec 32 := Scalar.muli arg8 c1_i32_22
  let v44 : BitVec 32 := Scalar.addi c0_i32_23 v43
  let c256_i32_63 : BitVec 32 := 256#32
  let v207 : BitVec 32 := Scalar.muli v44 c256_i32_63
  let c128_i32_64 : BitVec 32 := 128#32
  let v208 : BitVec 32 := Scalar.addi v207 c128_i32_64
  v208
def k0_mult8 (k0_t1 : Fin k0_t1_loop.trips) : BitVec 32 :=
  let c0_i32_23 : BitVec 32 := 0#32
  let c0_i32_20 : BitVec 32 := 0#32
  let c1_i32 : BitVec 32 := 1#32
  let arg8 : BitVec 32 := Scf.iv c0_i32_20 c1_i32 k0_t1
  let c1_i32_22 : BitVec 32 := 1#32
  let v43 : BitVec 32 := Scalar.muli arg8 c1_i32_22
  let v44 : BitVec 32 := Scalar.addi c0_i32_23 v43
  let c256_i32_75 : BitVec 32 := 256#32
  let v244 : BitVec 32 := Scalar.muli v44 c256_i32_75
  let c160_i32 : BitVec 32 := 160#32
  let v245 : BitVec 32 := Scalar.addi v244 c160_i32
  v245
def k0_mult9 (k0_t1 : Fin k0_t1_loop.trips) : BitVec 32 :=
  let c0_i32_23 : BitVec 32 := 0#32
  let c0_i32_20 : BitVec 32 := 0#32
  let c1_i32 : BitVec 32 := 1#32
  let arg8 : BitVec 32 := Scf.iv c0_i32_20 c1_i32 k0_t1
  let c1_i32_22 : BitVec 32 := 1#32
  let v43 : BitVec 32 := Scalar.muli arg8 c1_i32_22
  let v44 : BitVec 32 := Scalar.addi c0_i32_23 v43
  let c256_i32_86 : BitVec 32 := 256#32
  let v281 : BitVec 32 := Scalar.muli v44 c256_i32_86
  let c192_i32 : BitVec 32 := 192#32
  let v282 : BitVec 32 := Scalar.addi v281 c192_i32
  v282
def k0_mult10 (k0_t1 : Fin k0_t1_loop.trips) : BitVec 32 :=
  let c0_i32_23 : BitVec 32 := 0#32
  let c0_i32_20 : BitVec 32 := 0#32
  let c1_i32 : BitVec 32 := 1#32
  let arg8 : BitVec 32 := Scf.iv c0_i32_20 c1_i32 k0_t1
  let c1_i32_22 : BitVec 32 := 1#32
  let v43 : BitVec 32 := Scalar.muli arg8 c1_i32_22
  let v44 : BitVec 32 := Scalar.addi c0_i32_23 v43
  let c256_i32_97 : BitVec 32 := 256#32
  let v318 : BitVec 32 := Scalar.muli v44 c256_i32_97
  let c224_i32 : BitVec 32 := 224#32
  let v319 : BitVec 32 := Scalar.addi v318 c224_i32
  v319
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x12288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x6144 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x384 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S6x1024x12288 : Shape := ⟨3, ![6, 1024, 12288]⟩
abbrev S4608x6144 : Shape := ⟨2, ![4608, 6144]⟩
abbrev S4608x384 : Shape := ⟨2, ![4608, 384]⟩
abbrev S2 : Shape := ⟨1, ![2]⟩
abbrev S4608x6144x1 : Shape := ⟨3, ![4608, 6144, 1]⟩
abbrev S1x1x2 : Shape := ⟨3, ![1, 1, 2]⟩
abbrev S4608x6144x2 : Shape := ⟨3, ![4608, 6144, 2]⟩
abbrev S_ : Shape := ⟨0, ![]⟩
abbrev S4608x384x16x2 : Shape := ⟨4, ![4608, 384, 16, 2]⟩
abbrev S4608x384x1x1 : Shape := ⟨4, ![4608, 384, 1, 1]⟩
abbrev S6x1024x6144x2 : Shape := ⟨4, ![6, 1024, 6144, 2]⟩
abbrev S6x1024x4608 : Shape := ⟨3, ![6, 1024, 4608]⟩

abbrev nBuf : Space → Nat
  | .hbm => 91
  | .vmem => 0
  | .smem => 0
  | _ => 0

abbrev bufTy : (tb : Table) → Fin (tcTables nBuf tb) → BufTy
  | .hbm, ⟨0, _⟩ => ⟨S6x1024x12288, .bf16⟩
  | .hbm, ⟨1, _⟩ => ⟨S4608x6144, .i8⟩
  | .hbm, ⟨2, _⟩ => ⟨S4608x384, .i8⟩
  | .hbm, ⟨3, _⟩ => ⟨S2, .i32⟩
  | .hbm, ⟨4, _⟩ => ⟨S4608x6144, .i32⟩
  | .hbm, ⟨5, _⟩ => ⟨S4608x6144x1, .i32⟩
  | .hbm, ⟨6, _⟩ => ⟨S1x1x2, .i32⟩
  | .hbm, ⟨7, _⟩ => ⟨S4608x6144x2, .i32⟩
  | .hbm, ⟨8, _⟩ => ⟨S4608x6144x2, .i32⟩
  | .hbm, ⟨9, _⟩ => ⟨S4608x6144x2, .i32⟩
  | .hbm, ⟨10, _⟩ => ⟨S_, .i32⟩
  | .hbm, ⟨11, _⟩ => ⟨S4608x6144x2, .i32⟩
  | .hbm, ⟨12, _⟩ => ⟨S4608x6144x2, .i32⟩
  | .hbm, ⟨13, _⟩ => ⟨S4608x384, .i32⟩
  | .hbm, ⟨14, _⟩ => ⟨S_, .i32⟩
  | .hbm, ⟨15, _⟩ => ⟨S4608x384, .i32⟩
  | .hbm, ⟨16, _⟩ => ⟨S4608x384, .i32⟩
  | .hbm, ⟨17, _⟩ => ⟨S4608x384, .f32⟩
  | .hbm, ⟨18, _⟩ => ⟨S_, .f32⟩
  | .hbm, ⟨19, _⟩ => ⟨S4608x384, .f32⟩
  | .hbm, ⟨20, _⟩ => ⟨S4608x384, .f32⟩
  | .hbm, ⟨21, _⟩ => ⟨S_, .i32⟩
  | .hbm, ⟨22, _⟩ => ⟨S4608x384, .i32⟩
  | .hbm, ⟨23, _⟩ => ⟨S4608x384, .i1⟩
  | .hbm, ⟨24, _⟩ => ⟨S_, .i32⟩
  | .hbm, ⟨25, _⟩ => ⟨S4608x384, .i32⟩
  | .hbm, ⟨26, _⟩ => ⟨S4608x384, .i1⟩
  | .hbm, ⟨27, _⟩ => ⟨S_, .f32⟩
  | .hbm, ⟨28, _⟩ => ⟨S4608x384, .f32⟩
  | .hbm, ⟨29, _⟩ => ⟨S4608x384, .f32⟩
  | .hbm, ⟨30, _⟩ => ⟨S_, .f32⟩
  | .hbm, ⟨31, _⟩ => ⟨S4608x384, .f32⟩
  | .hbm, ⟨32, _⟩ => ⟨S4608x384, .f32⟩
  | .hbm, ⟨33, _⟩ => ⟨S4608x384, .bf16⟩
  | .hbm, ⟨34, _⟩ => ⟨S_, .i32⟩
  | .hbm, ⟨35, _⟩ => ⟨S4608x6144x2, .i32⟩
  | .hbm, ⟨36, _⟩ => ⟨S4608x6144x2, .i32⟩
  | .hbm, ⟨37, _⟩ => ⟨S_, .i32⟩
  | .hbm, ⟨38, _⟩ => ⟨S4608x6144x2, .i32⟩
  | .hbm, ⟨39, _⟩ => ⟨S4608x6144x2, .i1⟩
  | .hbm, ⟨40, _⟩ => ⟨S_, .i32⟩
  | .hbm, ⟨41, _⟩ => ⟨S4608x6144x2, .i32⟩
  | .hbm, ⟨42, _⟩ => ⟨S4608x6144x2, .i32⟩
  | .hbm, ⟨43, _⟩ => ⟨S_, .i32⟩
  | .hbm, ⟨44, _⟩ => ⟨S4608x6144x2, .i32⟩
  | .hbm, ⟨45, _⟩ => ⟨S4608x6144x2, .i1⟩
  | .hbm, ⟨46, _⟩ => ⟨S_, .i32⟩
  | .hbm, ⟨47, _⟩ => ⟨S4608x6144x2, .i32⟩
  | .hbm, ⟨48, _⟩ => ⟨S4608x6144x2, .i32⟩
  | .hbm, ⟨49, _⟩ => ⟨S_, .i32⟩
  | .hbm, ⟨50, _⟩ => ⟨S4608x6144x2, .i32⟩
  | .hbm, ⟨51, _⟩ => ⟨S4608x6144x2, .i1⟩
  | .hbm, ⟨52, _⟩ => ⟨S_, .i32⟩
  | .hbm, ⟨53, _⟩ => ⟨S4608x6144x2, .i32⟩
  | .hbm, ⟨54, _⟩ => ⟨S4608x6144x2, .i32⟩
  | .hbm, ⟨55, _⟩ => ⟨S_, .i32⟩
  | .hbm, ⟨56, _⟩ => ⟨S4608x6144x2, .i32⟩
  | .hbm, ⟨57, _⟩ => ⟨S4608x6144x2, .i1⟩
  | .hbm, ⟨58, _⟩ => ⟨S_, .bf16⟩
  | .hbm, ⟨59, _⟩ => ⟨S_, .bf16⟩
  | .hbm, ⟨60, _⟩ => ⟨S4608x6144x2, .bf16⟩
  | .hbm, ⟨61, _⟩ => ⟨S4608x6144x2, .bf16⟩
  | .hbm, ⟨62, _⟩ => ⟨S4608x6144x2, .bf16⟩
  | .hbm, ⟨63, _⟩ => ⟨S_, .bf16⟩
  | .hbm, ⟨64, _⟩ => ⟨S_, .bf16⟩
  | .hbm, ⟨65, _⟩ => ⟨S4608x6144x2, .bf16⟩
  | .hbm, ⟨66, _⟩ => ⟨S4608x6144x2, .bf16⟩
  | .hbm, ⟨67, _⟩ => ⟨S4608x6144x2, .bf16⟩
  | .hbm, ⟨68, _⟩ => ⟨S4608x6144x2, .bf16⟩
  | .hbm, ⟨69, _⟩ => ⟨S_, .bf16⟩
  | .hbm, ⟨70, _⟩ => ⟨S_, .bf16⟩
  | .hbm, ⟨71, _⟩ => ⟨S4608x6144x2, .bf16⟩
  | .hbm, ⟨72, _⟩ => ⟨S4608x6144x2, .bf16⟩
  | .hbm, ⟨73, _⟩ => ⟨S4608x6144x2, .bf16⟩
  | .hbm, ⟨74, _⟩ => ⟨S_, .bf16⟩
  | .hbm, ⟨75, _⟩ => ⟨S_, .bf16⟩
  | .hbm, ⟨76, _⟩ => ⟨S4608x6144x2, .bf16⟩
  | .hbm, ⟨77, _⟩ => ⟨S4608x6144x2, .bf16⟩
  | .hbm, ⟨78, _⟩ => ⟨S4608x6144x2, .bf16⟩
  | .hbm, ⟨79, _⟩ => ⟨S4608x6144x2, .bf16⟩
  | .hbm, ⟨80, _⟩ => ⟨S4608x6144x2, .bf16⟩
  | .hbm, ⟨81, _⟩ => ⟨S4608x6144x2, .bf16⟩
  | .hbm, ⟨82, _⟩ => ⟨S4608x6144x2, .bf16⟩
  | .hbm, ⟨83, _⟩ => ⟨S4608x384x16x2, .bf16⟩
  | .hbm, ⟨84, _⟩ => ⟨S4608x384x1x1, .bf16⟩
  | .hbm, ⟨85, _⟩ => ⟨S4608x384x16x2, .bf16⟩
  | .hbm, ⟨86, _⟩ => ⟨S4608x384x16x2, .bf16⟩
  | .hbm, ⟨87, _⟩ => ⟨S4608x6144x2, .bf16⟩
  | .hbm, ⟨88, _⟩ => ⟨S6x1024x6144x2, .bf16⟩
  | .hbm, ⟨89, _⟩ => ⟨S6x1024x4608, .f32⟩
  | .hbm, ⟨90, _⟩ => ⟨S6x1024x4608, .bf16⟩
  | _, _ => ⟨S6x1024x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_c_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_call0_v0 : Ref sig .tc := ⟨.hbm, 28, rfl⟩
abbrev main_v18 : Ref sig .tc := ⟨.hbm, 29, rfl⟩
abbrev main_cst_5 : Ref sig .tc := ⟨.hbm, 30, rfl⟩
abbrev main_call1_v0 : Ref sig .tc := ⟨.hbm, 31, rfl⟩
abbrev main_v19 : Ref sig .tc := ⟨.hbm, 32, rfl⟩
abbrev main_v20 : Ref sig .tc := ⟨.hbm, 33, rfl⟩
abbrev main_c_6 : Ref sig .tc := ⟨.hbm, 34, rfl⟩
abbrev main_v21 : Ref sig .tc := ⟨.hbm, 35, rfl⟩
abbrev main_v22 : Ref sig .tc := ⟨.hbm, 36, rfl⟩
abbrev main_c_7 : Ref sig .tc := ⟨.hbm, 37, rfl⟩
abbrev main_v23 : Ref sig .tc := ⟨.hbm, 38, rfl⟩
abbrev main_v24 : Ref sig .tc := ⟨.hbm, 39, rfl⟩
abbrev main_c_8 : Ref sig .tc := ⟨.hbm, 40, rfl⟩
abbrev main_v25 : Ref sig .tc := ⟨.hbm, 41, rfl⟩
abbrev main_v26 : Ref sig .tc := ⟨.hbm, 42, rfl⟩
abbrev main_c_9 : Ref sig .tc := ⟨.hbm, 43, rfl⟩
abbrev main_v27 : Ref sig .tc := ⟨.hbm, 44, rfl⟩
abbrev main_v28 : Ref sig .tc := ⟨.hbm, 45, rfl⟩
abbrev main_c_10 : Ref sig .tc := ⟨.hbm, 46, rfl⟩
abbrev main_v29 : Ref sig .tc := ⟨.hbm, 47, rfl⟩
abbrev main_v30 : Ref sig .tc := ⟨.hbm, 48, rfl⟩
abbrev main_c_11 : Ref sig .tc := ⟨.hbm, 49, rfl⟩
abbrev main_v31 : Ref sig .tc := ⟨.hbm, 50, rfl⟩
abbrev main_v32 : Ref sig .tc := ⟨.hbm, 51, rfl⟩
abbrev main_c_12 : Ref sig .tc := ⟨.hbm, 52, rfl⟩
abbrev main_v33 : Ref sig .tc := ⟨.hbm, 53, rfl⟩
abbrev main_v34 : Ref sig .tc := ⟨.hbm, 54, rfl⟩
abbrev main_c_13 : Ref sig .tc := ⟨.hbm, 55, rfl⟩
abbrev main_v35 : Ref sig .tc := ⟨.hbm, 56, rfl⟩
abbrev main_v36 : Ref sig .tc := ⟨.hbm, 57, rfl⟩
abbrev main_cst_14 : Ref sig .tc := ⟨.hbm, 58, rfl⟩
abbrev main_cst_15 : Ref sig .tc := ⟨.hbm, 59, rfl⟩
abbrev main_call2_v0 : Ref sig .tc := ⟨.hbm, 60, rfl⟩
abbrev main_call2_v1 : Ref sig .tc := ⟨.hbm, 61, rfl⟩
abbrev main_v37 : Ref sig .tc := ⟨.hbm, 62, rfl⟩
abbrev main_cst_16 : Ref sig .tc := ⟨.hbm, 63, rfl⟩
abbrev main_cst_17 : Ref sig .tc := ⟨.hbm, 64, rfl⟩
abbrev main_call3_v0 : Ref sig .tc := ⟨.hbm, 65, rfl⟩
abbrev main_call3_v1 : Ref sig .tc := ⟨.hbm, 66, rfl⟩
abbrev main_v38 : Ref sig .tc := ⟨.hbm, 67, rfl⟩
abbrev main_v39 : Ref sig .tc := ⟨.hbm, 68, rfl⟩
abbrev main_cst_18 : Ref sig .tc := ⟨.hbm, 69, rfl⟩
abbrev main_cst_19 : Ref sig .tc := ⟨.hbm, 70, rfl⟩
abbrev main_call5_v0 : Ref sig .tc := ⟨.hbm, 71, rfl⟩
abbrev main_call5_v1 : Ref sig .tc := ⟨.hbm, 72, rfl⟩
abbrev main_v40 : Ref sig .tc := ⟨.hbm, 73, rfl⟩
abbrev main_cst_20 : Ref sig .tc := ⟨.hbm, 74, rfl⟩
abbrev main_cst_21 : Ref sig .tc := ⟨.hbm, 75, rfl⟩
abbrev main_call6_v0 : Ref sig .tc := ⟨.hbm, 76, rfl⟩
abbrev main_call6_v1 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩

abbrev nD : Nat := 1
abbrev τ : Topo := Topo.v7x

variable {F : FTy → Type} [FloatOps F]
-- ==== Proof.Group.lean ====
/-
  One group of a trip: 16 rows of code words become 32 rows of bf16 weights.
-/
module

public import proofs.«01_k».proof.Proof.Gen.KernelIdeal.Frame
public import Idealize.ShloMosaic.Lib.Claim
public import Idealize.ShloMosaic.Lib.Pointwise
public import Idealize.ShloMosaic.Lib.BitcastPair

@[expose] public section
set_option maxRecDepth 16384
noncomputable section
namespace Cert.KernelIdeal.Dec
open Idealize.ShloMosaic Idealize.ShloMosaic.TcCoe Idealize.ShloMosaic.Tactic
open Cert.KernelIdeal.Gen

/-- A 16 × 512 box of words read as 32 × 512 `bf16` numbers. -/
def unpack (x : IVec S16x512 32) : FVec Ideal S32x512 .bf16 :=
  bitcastToFloat .bf16 (bitcast S32x512 16 x bitcasts_S16x512_w32_S32x512_w16)

/-- Row `r` of the numbers is half `r % 2` of the words' row `r / 2`. -/
theorem unpack_apply (x : IVec S16x512 32) (r : Fin 32) (n : Fin 512) :
    unpack x (ix2 r n) = Ideal.ofBits .bf16 ((x (ix2 (⟨r.val / 2, by omega⟩ : Fin 16) n)).extractLsb' (16 * (r.val % 2)) 16) := by
  have h := bitcast_32_16 x bitcasts_S16x512_w32_S32x512_w16 (ix2 r n)
  refine (congrArg (Ideal.ofBits .bf16) h).trans ?_
  have e : ∀ (i i' : S16x512.Idx) (q q' : Nat), i = i' → q = q' → Ideal.ofBits .bf16 ((x i).extractLsb' (16 * q) 16) = Ideal.ofBits .bf16 ((x i').extractLsb' (16 * q') 16) := by
    rintro i _ q _ rfl rfl; rfl
  refine e _ _ _ _ ?_ rfl
  funext a
  apply Fin.ext
  match a with
  | ⟨0, _⟩ => rfl
  | ⟨1, _⟩ => rfl

/-- One group's weights as the kernel computes them on a 16 × 512 box of codes `w` and of scale words `sc`. -/
def group (w sc : IVec S16x512 32) : FVec Ideal S32x512 .bf16 :=
  let t := andi (ori w (shli w (broadcast S16x512 12#32))) (broadcast S16x512 983055#32)
  let a : FVec Ideal S32x512 .bf16 := unpack (addi (shli (andi t (broadcast S16x512 458759#32)) (broadcast S16x512 6#32)) (broadcast S16x512 1056980736#32))
  let g : FVec Ideal S32x512 .bf16 := unpack (ori (shli (andi t (broadcast S16x512 524296#32)) (broadcast S16x512 12#32)) (broadcast S16x512 1065369472#32))
  mulf (mulf (minimumf a (addf a (subf a (broadcast S32x512 (Scalar.ofBits .bf16 0x3F80#16))))) (unpack sc)) g

/-- The magnitude word of a code word: exponent and mantissa bits of both halves. -/
def magWord (w : BitVec 32) : BitVec 32 :=
  (((((w ||| (w <<< 12)) &&& 983055#32) &&& 458759#32) <<< 6) + 1056980736#32)
/-- The sign word of a code word: plus or minus one in both halves. -/
def sgnWord (w : BitVec 32) : BitVec 32 :=
  (((((w ||| (w <<< 12)) &&& 983055#32) &&& 524296#32) <<< 12) ||| 1065369472#32)

/-- Half `p` of a word as a `bf16` number. -/
def half (x : BitVec 32) (p : Nat) : EReal := Ideal.ofBits .bf16 (x.extractLsb' (16 * p) 16)

/-- The weight that code word `w` and scale word `s` give in half `p`. -/
def dec (w s : BitVec 32) (p : Nat) : EReal :=
  min (half (magWord w) p) (half (magWord w) p + (half (magWord w) p - Ideal.ofBits .bf16 0x3F80#16)) * half s p * half (sgnWord w) p

/-- A group at a row and a column: row `r` comes from word row `r / 2`, field `r % 2`. -/
theorem group_apply (w sc : IVec S16x512 32) (r : Fin 32) (n : Fin 512) :
   group w sc (ix2 r n) = dec (w (ix2 (⟨r.val / 2, by omega⟩ : Fin 16) n)) (sc (ix2 (⟨r.val / 2, by omega⟩ : Fin 16) n)) (r.val % 2) := by
  have e : ∀ A B : IVec S16x512 32, mulf (mulf (minimumf (unpack A) (addf (unpack A) (subf (unpack A) (broadcast S32x512 (Scalar.ofBits .bf16 0x3F80#16))))) (unpack sc)) (unpack B) (ix2 r n)
     = min (unpack A (ix2 r n)) (unpack A (ix2 r n) + (unpack A (ix2 r n) - Ideal.ofBits .bf16 0x3F80#16)) * unpack sc (ix2 r n) * unpack B (ix2 r n) := fun _ _ => rfl
  refine (e _ _).trans ?_
  rw [unpack_apply, unpack_apply, unpack_apply]
  unfold dec half magWord sgnWord
  pointwise
  rfl
end Cert.KernelIdeal.Dec
-- ==== Proof.Trip.lean ====
/-
  What one trip of the refill's loop stores: eight groups, 256 rows of the scratch.
-/
module

public import proofs.«01_k».proof.Proof.Group
public import Idealize.ShloMosaic.Lib.Pipeline.ReadBack
public import Idealize.ShloMosaic.Lib.Pipeline.Value
public import Idealize.ShloMosaic.Lib.Pipeline.ValueKit.Geometry

@[expose] public section
set_option maxRecDepth 16384
noncomputable section
namespace Cert.KernelIdeal.Dec
open Idealize.ShloMosaic Idealize.ShloMosaic.TcCoe Idealize.ShloMosaic.Tactic
open Cert.KernelIdeal.Gen

/-- Group `g` of a trip, from the trip's 512 × 128 code bytes and its 8 × 512 scale words. -/
def groupOf (v48 : Vec Ideal S512x128 .i8) (v54 : Vec Ideal S8x512 .i32) (g : Nat)
    (h1 : S128x512.Slices ![16 * g, 0] S16x512) (h2 : S8x512.Slices ![g, 0] S1x512) : FVec Ideal S32x512 .bf16 :=
  shapeCast S32x512 (group (extractStridedSlice S16x512 ![16 * g, 0] (k0_pay2 (F := Ideal) v48) h1)
        (broadcastTo S16x512 (shapeCast S1x512 (extractStridedSlice S1x512 ![g, 0] v54 h2) shapeCasts_S1x512_S1x512) broadcasts_S1x512_S16x512)) shapeCasts_S32x512_S32x512

/-- A group's entry: row `r` takes half `r % 2` of code row `16 g + r / 2` and of scale row `g`. -/
theorem groupOf_apply (v48 : Vec Ideal S512x128 .i8) (v54 : Vec Ideal S8x512 .i32) (g : Nat) (hg : g < 8)
    (h1 : S128x512.Slices ![16 * g, 0] S16x512) (h2 : S8x512.Slices ![g, 0] S1x512) (r : Fin 32) (n : Fin 512) :
    groupOf v48 v54 g h1 h2 (ix2 r n)
      = dec ((v48 (ix2 n (⟨16 * g + r.val / 2, by omega⟩ : Fin 128)) : BitVec 8).zeroExtend 32) (v54 (ix2 (⟨g, hg⟩ : Fin 8) n)) (r.val % 2) := by
  unfold groupOf
  pointwise
  rw [group_apply]
  unfold k0_pay2
  pointwise

variable (𝒱 : Variants) (c : Dev nD) (bd : Option 𝒱.V) (i : grid0.Coords) (arg2 : Memref sig .tc .vmem S256x12288 .bf16) (harg2 : arg2.IsWhole) (arg3 : Memref sig .tc .vmem S512x6144 .i8) (harg3 : arg3.IsWhole) (arg4 : Memref sig .tc .vmem S512x384 .i8) (harg4 : arg4.IsWhole) (arg5 : Memref sig .tc .vmem S256x512 .bf16) (harg5 : arg5.IsWhole) (arg6 : Memref sig .tc .vmem S12288x512 .bf16) (harg6 : arg6.IsWhole) (arg7 : Memref sig .tc .vmem S384x512 .i32) (harg7 : arg7.IsWhole) (k0_h1 : k0_cond1 i = 1#1) (X_arg3 : BufTy.Contents (Elt Ideal) arg3.view.ty) (X_arg7 : BufTy.Contents (Elt Ideal) arg7.view.ty)

/-- The 12288 × 512 weights of a block of 512 × 6144 code bytes and 384 × 512 scale words. -/
def weights (cb : Vec Ideal S512x6144 .i8) (sw : Vec Ideal S384x512 .i32) : Vec Ideal S12288x512 .bf16 := fun y =>
  have h0 := (y 0).isLt
  dec ((cb (ix2 (y 1) (⟨(y 0).val / 2, by change _ < 12288 at h0; omega⟩ : Fin 6144)) : BitVec 8).zeroExtend 32)
    (sw (ix2 (⟨(y 0).val / 32, by change _ < 12288 at h0; omega⟩ : Fin 384) (y 1))) ((y 0).val % 2)

/-- Trip `k` loads the codes' columns from `128 k`. -/
theorem off1_eq : ∀ k : Fin k0_t1_loop.trips, k0_off1 k = ![0, 128 * k.val] := by decide +kernel
/-- Trip `k` loads the scale words' rows from `8 k`. -/
theorem off2_eq : ∀ k : Fin k0_t1_loop.trips, k0_off2 k = ![8 * k.val, 0] := by decide +kernel
/-- Group `g` of trip `k` is stored at the scratch's row `256 k + 32 g`. -/
theorem off3_eq : ∀ (k : Fin k0_t1_loop.trips) (g : Fin 8), k0_off3 k (BitVec.ofNat 32 (32 * g.val)) = ![256 * k.val + 32 * g.val, 0] := by decide +kernel

/-- That group lies within the scratch. -/
theorem off3_inb (k : Fin k0_t1_loop.trips) (g : Fin 8) (a : Fin 2) :
    k0_off3 k (BitVec.ofNat 32 (32 * g.val)) a + (![32, 512] : Fin 2 → Nat) a ≤ S12288x512.size a := by
  have hk : k.val < 48 := Nat.lt_of_lt_of_le k.isLt k0_t1_abs.2.1
  rw [off3_eq]
  match a with
  | ⟨0, _⟩ => change 256 * k.val + 32 * g.val + 32 ≤ 12288; omega
  | ⟨1, _⟩ => exact Nat.le_refl 512

/-- Group `g` of trip `k`, stored at rows `256 k + 32 g` and on, is that block of `weights`. -/
theorem group_block (cb : Vec Ideal S512x6144 .i8) (sw : Vec Ideal S384x512 .i32) (k : Fin k0_t1_loop.trips) (g : Nat) (hg : g < 8)
    (h1 : S128x512.Slices ![16 * g, 0] S16x512) (h2 : S8x512.Slices ![g, 0] S1x512)
    (inb1 : ∀ a, k0_off1 k a + S512x128.size a ≤ S512x6144.size a) (inb2 : ∀ a, k0_off2 k a + S8x512.size a ≤ S384x512.size a)
    (o : Fin 2 → Nat) (ho : o = ![256 * k.val + 32 * g, 0]) (inb3 : ∀ a, o a + (![32, 512] : Fin 2 → Nat) a ≤ S12288x512.size a)
    (x : S32x512.Idx) :
    groupOf (View.ld cb (Rect.unit (k0_off1 k) S512x128.size inb1)) (View.ld sw (Rect.unit (k0_off2 k) S8x512.size inb2)) g h1 h2 x
      = weights cb sw ((Rect.unit (s := S12288x512) o ![32, 512] inb3).emb x) := by
  obtain ⟨r, n, rfl⟩ : ∃ (r : Fin 32) (n : Fin 512), x = ix2 r n := ⟨x 0, x 1, eq_ix2 x⟩
  have hk : k.val < 48 := Nat.lt_of_lt_of_le k.isLt k0_t1_abs.2.1
  rw [groupOf_apply _ _ g hg]
  unfold weights View.ld
  subst ho
  have e0 : ((Rect.unit (s := S12288x512) _ ![32, 512] inb3).emb (ix2 r n) 0).val = 256 * k.val + 32 * g + r.val := by
    exact ValueKit.rect_emb_unit_val _ _ _ _ _
  have e1 : ((Rect.unit (s := S12288x512) _ ![32, 512] inb3).emb (ix2 r n) 1).val = n.val := by
    exact (ValueKit.rect_emb_unit_val _ _ _ _ _).trans (Nat.zero_add _)
  have ed : ∀ (a a' : S512x6144.Idx) (b b' : S384x512.Idx) (p p' : Nat), a = a' → b = b' → p = p' →
      dec ((cb a : BitVec 8).zeroExtend 32) (sw b) p = dec ((cb a' : BitVec 8).zeroExtend 32) (sw b') p' := by
    rintro a _ b _ p _ rfl rfl rfl; rfl
  refine ed _ _ _ _ _ _ ?_ ?_ ?_
  · funext a; apply Fin.ext
    match a with
    | ⟨0, _⟩ => refine Eq.trans ?_ e1.symm; change k0_off1 k 0 + 1 * n.val = _; rw [off1_eq]; change 0 + _ = _; omega
    | ⟨1, _⟩ => change k0_off1 k 1 + 1 * (16 * g + r.val / 2) = _ / 2; rw [off1_eq, e0]; change 128 * k.val + _ = _; omega
  · funext a; apply Fin.ext
    match a with
    | ⟨0, _⟩ => change k0_off2 k 0 + 1 * g = _ / 32; rw [off2_eq, e0]; change 8 * k.val + _ = _; omega
    | ⟨1, _⟩ => refine Eq.trans ?_ e1.symm; change k0_off2 k 1 + 1 * n.val = _; rw [off2_eq]; change 0 + _ = _; omega
  · rw [e0]; omega

/-- Every store of trip `k` is a block of `weights`. -/
theorem trip_pieces (k : Fin k0_t1_loop.trips) :
    View.PiecesOf (weights (arg3.view.read (Elt Ideal) X_arg3) (arg7.view.read (Elt Ideal) X_arg7))
      (tripL_k0_t1 (F := Ideal) 𝒱 c bd i arg2 harg2 arg3 harg3 arg4 harg4 arg5 harg5 arg6 harg6 arg7 harg7 k0_h1 X_arg3 X_arg7 k) := by
  unfold tripL_k0_t1 trip_k0_t1
  dsimp only
  sl_unfold_run_names
  refine ⟨?_, ?_, ?_, ?_, ?_, ?_, ?_, ?_, trivial⟩
  · exact fun x => group_block _ _ k 7 (by decide) slices_S128x512_o112_0_S16x512 slices_S8x512_o7_0_S1x512 _ _ _ (off3_eq k 7) (off3_inb k 7) x
  · exact fun x => group_block _ _ k 6 (by decide) slices_S128x512_o96_0_S16x512 slices_S8x512_o6_0_S1x512 _ _ _ (off3_eq k 6) (off3_inb k 6) x
  · exact fun x => group_block _ _ k 5 (by decide) slices_S128x512_o80_0_S16x512 slices_S8x512_o5_0_S1x512 _ _ _ (off3_eq k 5) (off3_inb k 5) x
  · exact fun x => group_block _ _ k 4 (by decide) slices_S128x512_o64_0_S16x512 slices_S8x512_o4_0_S1x512 _ _ _ (off3_eq k 4) (off3_inb k 4) x
  · exact fun x => group_block _ _ k 3 (by decide) slices_S128x512_o48_0_S16x512 slices_S8x512_o3_0_S1x512 _ _ _ (off3_eq k 3) (off3_inb k 3) x
  · exact fun x => group_block _ _ k 2 (by decide) slices_S128x512_o32_0_S16x512 slices_S8x512_o2_0_S1x512 _ _ _ (off3_eq k 2) (off3_inb k 2) x
  · exact fun x => group_block _ _ k 1 (by decide) slices_S128x512_o16_0_S16x512 slices_S8x512_o1_0_S1x512 _ _ _ (off3_eq k 1) (off3_inb k 1) x
  · exact fun x => group_block _ _ k 0 (by decide) slices_S128x512_o0_0_S16x512 slices_S8x512_o0_0_S1x512 _ _ _ (off3_eq k 0) (off3_inb k 0) x
end Cert.KernelIdeal.Dec
-- ==== Proof.Scratch.lean ====
/-
  What the refill leaves in the scratch: the decoded weights of the point's codes and scales.
-/
module

public import proofs.«01_k».proof.Proof.Trip

@[expose] public section
set_option maxRecDepth 16384
noncomputable section
namespace Cert.KernelIdeal.Dec
open Idealize.ShloMosaic Idealize.ShloMosaic.TcCoe Idealize.ShloMosaic.Tactic
open Cert.KernelIdeal.Gen

/-- The scale word of a scale byte: the byte at the exponent field of both halves. -/
def sclWord (s : BitVec 32) : BitVec 32 := (s <<< 7) ||| (s <<< 23)

/-- The 384 × 512 scale words of a block of 512 × 384 scale bytes. -/
def scaleWords (sb : Vec Ideal S512x384 .i8) : Vec Ideal S384x512 .i32 := fun y =>
  sclWord ((sb (ix2 (y 1) (y 0)) : BitVec 8).zeroExtend 32)

/-- The scale words of 128 scale columns, as the kernel computes them. -/
theorem pay31_apply (v : Vec Ideal S512x128 .i8) (r : Fin 128) (n : Fin 512) :
    k0_pay31 (F := Ideal) v (ix2 r n) = sclWord ((v (ix2 n r) : BitVec 8).zeroExtend 32) := by
  unfold k0_pay31 sclWord
  pointwise
  rfl

/-- A load of 128 scale columns from column `o`, turned to scale words, is that block of `scaleWords`. -/
theorem scale_block (sb : Vec Ideal S512x384 .i8) (o : Nat) (inb1 : ∀ a, (![0, o] : Fin 2 → Nat) a + S512x128.size a ≤ S512x384.size a)
    (inb2 : ∀ a, (![o, 0] : Fin 2 → Nat) a + S128x512.size a ≤ S384x512.size a) (x : S128x512.Idx) :
    k0_pay31 (F := Ideal) (View.ld sb (Rect.unit ![0, o] S512x128.size inb1)) x
      = scaleWords sb ((Rect.unit (s := S384x512) ![o, 0] S128x512.size inb2).emb x) := by
  obtain ⟨r, n, rfl⟩ : ∃ (r : Fin 128) (n : Fin 512), x = ix2 r n := ⟨x 0, x 1, eq_ix2 x⟩
  rw [pay31_apply]
  have e0 := ValueKit.rect_emb_unit_val (s := S384x512) ![o, 0] S128x512.size inb2 (ix2 r n) 0
  have e1 := ValueKit.rect_emb_unit_val (s := S384x512) ![o, 0] S128x512.size inb2 (ix2 r n) 1
  unfold scaleWords View.ld
  have ed : ∀ a a' : S512x384.Idx, a = a' → sclWord ((sb a : BitVec 8).zeroExtend 32) = sclWord ((sb a' : BitVec 8).zeroExtend 32) := by
    rintro a _ rfl; rfl
  refine ed _ _ ?_
  funext a; apply Fin.ext
  match a with
  | ⟨0, _⟩ => refine Eq.trans ?_ e1.symm; change 0 + 1 * n.val = 0 + n.val; omega
  | ⟨1, _⟩ => refine Eq.trans ?_ e0.symm; change o + 1 * r.val = o + r.val; omega

section
variable (𝒱 : Variants) (c : Dev nD) (bd : Option 𝒱.V) (i : grid0.Coords) (arg2 : Memref sig .tc .vmem S256x12288 .bf16) (harg2 : arg2.IsWhole) (arg3 : Memref sig .tc .vmem S512x6144 .i8) (harg3 : arg3.IsWhole) (arg4 : Memref sig .tc .vmem S512x384 .i8) (harg4 : arg4.IsWhole) (arg5 : Memref sig .tc .vmem S256x512 .bf16) (harg5 : arg5.IsWhole) (arg6 : Memref sig .tc .vmem S12288x512 .bf16) (harg6 : arg6.IsWhole) (arg7 : Memref sig .tc .vmem S384x512 .i32) (harg7 : arg7.IsWhole)

/-- Every store of the first `n` trips is a block of `weights`. -/
theorem loop_pieces (k0_h1 : k0_cond1 i = 1#1) (X_arg3 : BufTy.Contents (Elt Ideal) arg3.view.ty) (X_arg7 : BufTy.Contents (Elt Ideal) arg7.view.ty) :
    ∀ n, n ≤ k0_t1_loop.trips → ∀ p ∈ pb_k0_t1 (F := Ideal) 𝒱 c bd i arg2 harg2 arg3 harg3 arg4 harg4 arg5 harg5 arg6 harg6 arg7 harg7 k0_h1 X_arg3 X_arg7 n,
      ∀ x : p.1.shape.Idx, p.2 x = weights (arg3.view.read (Elt Ideal) X_arg3) (arg7.view.read (Elt Ideal) X_arg7) (p.1.emb x)
  | 0, _, p, hp => absurd hp List.not_mem_nil
  | n + 1, h, p, hp => by
    rw [pb_k0_t1_succ 𝒱 c bd i arg2 harg2 arg3 harg3 arg4 harg4 arg5 harg5 arg6 harg6 arg7 harg7 k0_h1 X_arg3 X_arg7 ⟨n, h⟩] at hp
    rcases List.mem_append.mp hp with hp | hp
    · exact (trip_pieces 𝒱 c bd i arg2 harg2 arg3 harg3 arg4 harg4 arg5 harg5 arg6 harg6 arg7 harg7 k0_h1 X_arg3 X_arg7 ⟨n, h⟩).mem p hp
    · exact loop_pieces k0_h1 X_arg3 X_arg7 n (Nat.le_of_succ_le h) p hp

variable (hc0 : cond0_0 i) (x0 : Vec Ideal S256x12288 .bf16) (x1 : Vec Ideal S512x6144 .i8) (x2 : Vec Ideal S512x384 .i8)

/-- What a trip loads of the scale words after the three stores of a refill. -/
theorem scales_read (w1 w2 w3 : Vec Ideal S128x512 .i32)
    (h1 : w1 = k0_pay31 (F := Ideal) (View.ld x2 (Rect.unit ![0, 0] S512x128.size inb_S512x384_S512x128_0_0)))
    (h2 : w2 = k0_pay31 (F := Ideal) (View.ld x2 (Rect.unit ![0, 128] S512x128.size inb_S512x384_S512x128_0_128)))
    (h3 : w3 = k0_pay31 (F := Ideal) (View.ld x2 (Rect.unit ![0, 256] S512x128.size inb_S512x384_S512x128_0_256))) :
    arg7.view.read (Elt Ideal) (arg7.view.writes (Elt Ideal) arg7.view.junk
      [⟨Rect.unit ![256, 0] S128x512.size inb_S384x512_S128x512_256_0, w3⟩,
       ⟨Rect.unit ![128, 0] S128x512.size inb_S384x512_S128x512_128_0, w2⟩,
       ⟨Rect.unit ![0, 0] S128x512.size inb_S384x512_S128x512_0_0, w1⟩]) = scaleWords x2 := by
  subst h1 h2 h3
  rw [View.read_writes_junk_eq_canon]
  funext y
  refine View.canon_append_of_piecesOf (scaleWords x2) [] [_, _, _] ⟨?_, ?_, ?_, trivial⟩ y ?_
  · exact fun x => scale_block x2 256 _ inb_S384x512_S128x512_256_0 x
  · exact fun x => scale_block x2 128 _ inb_S384x512_S128x512_128_0 x
  · exact fun x => scale_block x2 0 _ inb_S384x512_S128x512_0_0 x
  · exact View.cover_of_tiledL (s := S384x512) _ S128x512.size (by sl_kernel_rfl) y

/-- Every store into the scratch at a point that refills it is a block of the weights of the point's codes and scales. -/
theorem run_pieces : ∀ p ∈ (kernelRun0_A (F := Ideal) c i arg2 harg2 arg3 harg3 arg4 harg4 arg5 harg5 arg6 harg6 arg7 harg7 hc0 x0 x1 x2).2.1,
      ∀ x : p.1.shape.Idx, p.2 x = weights x1 (scaleWords x2) (p.1.emb x) := by
  have h : ∀ (X : BufTy.Contents (Elt Ideal) arg7.view.ty) (n : Nat), arg7.view.read (Elt Ideal) X = scaleWords x2 → n ≤ k0_t1_loop.trips →
      ∀ p ∈ pb_k0_t1 (F := Ideal) Variants.none c none i arg2 harg2 arg3 harg3 arg4 harg4 arg5 harg5 arg6 harg6 arg7 harg7 hc0 (harg3.unread x1) X n,
        ∀ x : p.1.shape.Idx, p.2 x = weights x1 (scaleWords x2) (p.1.emb x) := fun X n hX hn => by
    have h := loop_pieces Variants.none c none i arg2 harg2 arg3 harg3 arg4 harg4 arg5 harg5 arg6 harg6 arg7 harg7 hc0 (harg3.unread x1) X n hn
    rw [harg3.read_unread, hX] at h
    exact h
  have hld : ∀ (r : Rect S512x384), View.readAt (Elt Ideal) arg4.view r.toLoadRect (harg4.unread x2) = View.ld x2 r := fun r => by
    rw [View.readAt_eq_ld, harg4.read_unread]
  unfold kernelRun0_A
  dsimp only
  sl_unfold_words
  refine h _ _ (scales_read arg7 x2 _ _ _ ?_ ?_ ?_) (by decide)
  · exact congrArg (k0_pay31 (F := Ideal)) (hld _)
  · exact congrArg (k0_pay31 (F := Ideal)) (hld _)
  · exact congrArg (k0_pay31 (F := Ideal)) (hld _)

/-- The scratch after a point that refills it. -/
theorem sout0_A_0_eq : sout0_A_0 (F := Ideal) c i arg2 harg2 arg3 harg3 arg4 harg4 arg5 harg5 arg6 harg6 arg7 harg7 hc0 x0 x1 x2 = weights x1 (scaleWords x2) := by
  funext y
  unfold sout0_A_0
  rw [View.read_writes_junk_eq_canon]
  exact View.canon_apply_of_pieces _ _ (run_pieces c i arg2 harg2 arg3 harg3 arg4 harg4 arg5 harg5 arg6 harg6 arg7 harg7 hc0 x0 x1 x2) y (scover0_A_0 (F := Ideal) c i arg2 harg2 arg3 harg3 arg4 harg4 arg5 harg5 arg6 harg6 arg7 harg7 hc0 x0 x1 x2 y)
end
end Cert.KernelIdeal.Dec
-- ==== Proof.Block.lean ====
/-
  What one point leaves in its output block, in the two cases of the refill.
-/
module

public import proofs.«01_k».proof.Proof.Scratch

@[expose] public section
set_option maxRecDepth 16384
noncomputable section
namespace Cert.KernelIdeal.Dec
open Idealize.ShloMosaic Idealize.ShloMosaic.TcCoe Idealize.ShloMosaic.Tactic
open Cert.KernelIdeal.Gen

section
variable (c : Dev nD) (i : grid0.Coords) (arg2 : Memref sig .tc .vmem S256x12288 .bf16) (harg2 : arg2.IsWhole) (arg3 : Memref sig .tc .vmem S512x6144 .i8) (harg3 : arg3.IsWhole) (arg4 : Memref sig .tc .vmem S512x384 .i8) (harg4 : arg4.IsWhole) (arg5 : Memref sig .tc .vmem S256x512 .bf16) (harg5 : arg5.IsWhole) (arg6 : Memref sig .tc .vmem S12288x512 .bf16) (harg6 : arg6.IsWhole) (arg7 : Memref sig .tc .vmem S384x512 .i32) (harg7 : arg7.IsWhole)
variable (x0 : Vec Ideal S256x12288 .bf16) (x1 : Vec Ideal S512x6144 .i8) (x2 : Vec Ideal S512x384 .i8)

/-- A point that refills the scratch leaves in the output block the activations times the freshly decoded weights. -/
theorem out0_A_3_eq (hc0 : cond0_0 i) : out0_A_3 (F := Ideal) c i arg2 harg2 arg3 harg3 arg4 harg4 arg5 harg5 arg6 harg6 arg7 harg7 hc0 x0 x1 x2
    = k0_pay1 x0 (weights x1 (scaleWords x2)) := by
  have hs := sout0_A_0_eq c i arg2 harg2 arg3 harg3 arg4 harg4 arg5 harg5 arg6 harg6 arg7 harg7 hc0 x0 x1 x2
  unfold sout0_A_0 at hs
  rw [View.read_writes_junk_eq_canon] at hs
  unfold out0_A_3
  rw [View.read_writes_junk_eq_canon]
  revert hs
  unfold kernelRun0_A
  dsimp only
  sl_unfold_words
  intro hs
  rw [View.canon_unit_zero (by decide), View.readCov_eq_canon', hs, View.readAt_eq_ld, harg2.read_unread]
  exact congrArg₂ k0_pay1 (View.ld_unit_zero (by decide) _ x0) (View.ld_unit_zero (by decide) _ (weights x1 (scaleWords x2)))

/-- Any other point leaves in the output block the activations times the scratch it found. -/
theorem out0_B_3_eq (hc0 : ¬ cond0_0 i) (xs0 : Vec Ideal S12288x512 .bf16) : out0_B_3 (F := Ideal) c i arg2 harg2 arg3 harg3 arg4 harg4 arg5 harg5 arg6 harg6 arg7 harg7 hc0 x0 x1 x2 xs0
    = k0_pay1 x0 xs0 := by
  unfold out0_B_3
  rw [View.read_writes_junk_eq_canon]
  unfold kernelRun0_B
  dsimp only
  sl_unfold_words
  rw [View.canon_unit_zero (by decide), View.readAt_eq_ld, harg2.read_unread, View.readAt_eq_ld, harg6.read_unread]
  exact congrArg₂ k0_pay1 (View.ld_unit_zero (by decide) _ x0) (View.ld_unit_zero (by decide) _ xs0)
end
end Cert.KernelIdeal.Dec
-- ==== Proof.Array.lean ====
/-
  Every point of the grid. Point `t` has the column block `t / 24` and the row block `t % 24`; the scratch is refilled at the
  first row block of a column block and kept through the others, so by induction over the points it always holds the
  weights of the point's own codes and scales.
-/
module

public import proofs.«01_k».proof.Proof.Block

@[expose] public section
set_option maxRecDepth 16384
noncomputable section
namespace Cert.KernelIdeal.Dec
open Idealize.ShloMosaic Idealize.ShloMosaic.TcCoe Idealize.ShloMosaic.Tactic
open Cert.KernelIdeal Cert.KernelIdeal.Gen
open Idealize.ShloMosaic.Pipeline (Dat)

variable (m : (ℓ : Loc nD τ sig) → Buf (Elt Ideal) ℓ)

/-- The activations' block index at a point: the row block, `t % 24`. -/
theorem index0 : ∀ t : Fin grid0.N, win0_0.index t 0 = t.val % 24 ∧ win0_0.index t 1 = 0 := by decide +kernel
/-- The codes' block index at a point: the column block, `t / 24`. -/
theorem index1 : ∀ t : Fin grid0.N, win0_1.index t 0 = t.val / 24 ∧ win0_1.index t 1 = 0 := by decide +kernel
/-- The scales' block index at a point: the column block, `t / 24`. -/
theorem index2 : ∀ t : Fin grid0.N, win0_2.index t 0 = t.val / 24 ∧ win0_2.index t 1 = 0 := by decide +kernel
/-- The result's block index at a point: the row block and the column block. -/
theorem index3 : ∀ t : Fin grid0.N, win0_3.index t 0 = t.val % 24 ∧ win0_3.index t 1 = t.val / 24 := by decide +kernel

/-- The grid has 216 points. -/
theorem lt_N (t : Fin cfg0.N) : t.val < 216 := lt_of_lt_of_eq t.isLt Gen.N_0

/-- Point `t`'s rows of the activations. -/
theorem iblk0_apply (c : Dev nD) (t : Fin cfg0.N) (r : Fin 256) (k : Fin 12288) :
    iblk m c 0 t (ix2 r k) = V m c main_v0 (ix2 (⟨256 * (t.val % 24) + r.val, by have := lt_N t; omega⟩ : Fin 6144) k) := by
  refine congrArg (V m c main_v0) (funext fun a => Fin.ext ?_)
  match a with
  | ⟨0, _⟩ => change win0_0.index t 0 * 256 + 1 * r.val = _; rw [(index0 t).1]; change _ = 256 * (t.val % 24) + r.val; omega
  | ⟨1, _⟩ => change win0_0.index t 1 * 12288 + 1 * k.val = _; rw [(index0 t).2]; change _ = k.val; omega

/-- Point `t`'s rows of the codes. -/
theorem iblk1_apply (c : Dev nD) (t : Fin cfg0.N) (n : Fin 512) (k : Fin 6144) :
    iblk m c 1 t (ix2 n k) = m ((c : Thread nD τ).loc main_arg1) (ix2 (⟨512 * (t.val / 24) + n.val, by have := lt_N t; omega⟩ : Fin 4608) k) := by
  refine Eq.trans ?_ (congrFun (V_main_arg1 m c) _)
  refine congrArg (V m c main_arg1) (funext fun a => Fin.ext ?_)
  match a with
  | ⟨0, _⟩ => change win0_1.index t 0 * 512 + 1 * n.val = _; rw [(index1 t).1]; change _ = 512 * (t.val / 24) + n.val; omega
  | ⟨1, _⟩ => change win0_1.index t 1 * 6144 + 1 * k.val = _; rw [(index1 t).2]; change _ = k.val; omega

/-- Point `t`'s rows of the scales. -/
theorem iblk2_apply (c : Dev nD) (t : Fin cfg0.N) (n : Fin 512) (k : Fin 384) :
    iblk m c 2 t (ix2 n k) = m ((c : Thread nD τ).loc main_arg2) (ix2 (⟨512 * (t.val / 24) + n.val, by have := lt_N t; omega⟩ : Fin 4608) k) := by
  refine Eq.trans ?_ (congrFun (V_main_arg2 m c) _)
  refine congrArg (V m c main_arg2) (funext fun a => Fin.ext ?_)
  match a with
  | ⟨0, _⟩ => change win0_2.index t 0 * 512 + 1 * n.val = _; rw [(index2 t).1]; change _ = 512 * (t.val / 24) + n.val; omega
  | ⟨1, _⟩ => change win0_2.index t 1 * 384 + 1 * k.val = _; rw [(index2 t).2]; change _ = k.val; omega

/-- The weights of the codes and scales of point `t`. -/
def pointWeights (c : Dev nD) (t : Fin cfg0.N) : Vec Ideal S12288x512 .bf16 := weights (iblk m c 1 t) (scaleWords (iblk m c 2 t))

/-- Points of one weight block have the same weights. -/
theorem pointWeights_congr (c : Dev nD) (t t' : Fin cfg0.N) (h : t.val / 24 = t'.val / 24) : pointWeights m c t = pointWeights m c t' := by
  have e1 : iblk m c 1 t = iblk m c 1 t' := by
    funext j
    obtain ⟨n, k, rfl⟩ : ∃ (n : Fin 512) (k : Fin 6144), j = ix2 n k := ⟨j 0, j 1, eq_ix2 (n0 := 512) (n1 := 6144) j⟩
    rw [iblk1_apply, iblk1_apply]; simp only [h]
  have e2 : iblk m c 2 t = iblk m c 2 t' := by
    funext j
    obtain ⟨n, k, rfl⟩ : ∃ (n : Fin 512) (k : Fin 384), j = ix2 n k := ⟨j 0, j 1, eq_ix2 (n0 := 512) (n1 := 384) j⟩
    rw [iblk2_apply, iblk2_apply]; simp only [h]
  unfold pointWeights
  rw [e1, e2]

/-- After every point the scratch holds the weights of the point's codes and scales, and the output's buffer the product with them. -/
theorem outsAt_eq (c : Dev nD) : ∀ (n : Nat) (h : n < cfg0.N),
    outsAt0 m c n h = (k0_pay1 (iblk m c 0 ⟨n, h⟩) (pointWeights m c ⟨n, h⟩), pointWeights m c ⟨n, h⟩) := by
  intro n
  induction n with
  | zero =>
    intro h
    rw [outsAt0_A m c ⟨0, h⟩ rfl, out0_A_3_eq, sout0_A_0_eq]; rfl
  | succ n ih =>
    intro h
    by_cases h0 : (n + 1) % 24 = 0
    · rw [outsAt0_A m c ⟨n + 1, h⟩ h0, out0_A_3_eq, sout0_A_0_eq]; rfl
    · rw [outsAt0_B m c ⟨n + 1, h⟩ h0, out0_B_3_eq]
      unfold sout0_B_0
      have e := ih (Nat.lt_of_succ_lt h)
      have ew := pointWeights_congr m c ⟨n, Nat.lt_of_succ_lt h⟩ ⟨n + 1, h⟩ (by change n / 24 = (n + 1) / 24; omega)
      change (k0_pay1 _ (outsAt0 m c n _).2, (outsAt0 m c n _).2) = _
      rw [e, ew]
end Cert.KernelIdeal.Dec
-- ==== Proof.Result.lean ====
/-
  The result array: the blocks of the grid's points cover it, and each is its block of one function of the arguments. With the
  host reshapes before and after the grid this gives the kernel's run.
-/
module

public import proofs.«01_k».proof.Proof.Array

@[expose] public section
set_option maxRecDepth 16384
noncomputable section
namespace Cert.KernelIdeal.Dec
open Idealize.ShloMosaic Idealize.ShloMosaic.TcCoe Idealize.ShloMosaic.Tactic
open Cert.KernelIdeal Cert.KernelIdeal.Gen
open Idealize.ShloMosaic.Pipeline (Dat)

variable (m : (ℓ : Loc nD τ sig) → Buf (Elt Ideal) ℓ) (ρ : Dev nD → PrngReg)

/-- The product's block at a row and a column. -/
theorem k0_pay1_apply (x0 : Vec Ideal S256x12288 .bf16) (w : Vec Ideal S12288x512 .bf16) (r : Fin 256) (n : Fin 512) :
    k0_pay1 x0 w (ix2 r n) = ∑ k : Fin 12288, x0 (ix2 r k) * w (ix2 k n) := by
  unfold k0_pay1
  pointwise

/-- The weight of output column `n` at input column `k`, decoded from the packed codes and the scales. -/
def weight (codes : Vec Ideal S4608x6144 .i8) (scales : Vec Ideal S4608x384 .i8) (n : Fin 4608) (k : Fin 12288) : EReal :=
  dec ((codes (ix2 n (⟨k.val / 2, by omega⟩ : Fin 6144))).zeroExtend 32)
    (sclWord ((scales (ix2 n (⟨k.val / 32, by omega⟩ : Fin 384))).zeroExtend 32)) (k.val % 2)

/-- The result array: each row of the flattened activations against each decoded weight row. -/
def rows (x : Vec Ideal S6144x12288 .bf16) (codes : Vec Ideal S4608x6144 .i8) (scales : Vec Ideal S4608x384 .i8) : Vec Ideal S6144x4608 .bf16 :=
  fun y => ∑ k : Fin 12288, x (ix2 (y 0) k) * weight codes scales (y 1) k

/-- The result array at the launch's arguments. -/
abbrev G (c : Dev nD) : Vec Ideal S6144x4608 .bf16 :=
  rows (V m c main_v0) (m ((c : Thread nD τ).loc main_arg1)) (m ((c : Thread nD τ).loc main_arg2))

/-- A point's weights are the rows of the whole weight array that belong to its column block. -/
theorem pointWeights_apply (c : Dev nD) (t : Fin cfg0.N) (k : Fin 12288) (n : Fin 512) :
    pointWeights m c t (ix2 k n) = weight (m ((c : Thread nD τ).loc main_arg1)) (m ((c : Thread nD τ).loc main_arg2))
      (⟨512 * (t.val / 24) + n.val, by have := lt_N t; omega⟩ : Fin 4608) k := by
  change dec ((iblk m c 1 t (ix2 n (⟨k.val / 2, by omega⟩ : Fin 6144))).zeroExtend 32)
    (sclWord ((iblk m c 2 t (ix2 n (⟨k.val / 32, by omega⟩ : Fin 384))).zeroExtend 32)) (k.val % 2) = _
  rw [iblk1_apply, iblk2_apply]; rfl

/-- What point `t` writes back is its block of the result array. -/
theorem flushed_eq (c : Dev nD) (t : Fin cfg0.N) :
    (dats m 0 c).flushed 3 t = ((cfg0.win 3).blk t).view.read (Elt Ideal) (G m c) := by
  have e : (dats m 0 c).flushed 3 t = k0_pay1 (iblk m c 0 t) (pointWeights m c t) := by
    unfold Dat.flushed
    rw [after0_3, outsAt_eq]; rfl
  refine e.trans (funext fun j => ?_)
  obtain ⟨r, n, rfl⟩ : ∃ (r : Fin 256) (n : Fin 512), j = ix2 r n := ⟨j 0, j 1, eq_ix2 (n0 := 256) (n1 := 512) j⟩
  have hi : ((cfg0.win 3).blk t).view.emb (ix2 r n)
      = ix2 (⟨256 * (t.val % 24) + r.val, by have := lt_N t; omega⟩ : Fin 6144) (⟨512 * (t.val / 24) + n.val, by have := lt_N t; omega⟩ : Fin 4608) := by
    refine funext fun a => Fin.ext ?_
    match a with
    | ⟨0, _⟩ => change win0_3.index t 0 * 256 + 1 * r.val = _; rw [(index3 t).1]; change _ = 256 * (t.val % 24) + r.val; omega
    | ⟨1, _⟩ => change win0_3.index t 1 * 512 + 1 * n.val = _; rw [(index3 t).2]; change _ = 512 * (t.val / 24) + n.val; omega
  change _ = G m c (((cfg0.win 3).blk t).view.emb (ix2 r n))
  refine Eq.trans ?_ (congrArg (G m c) hi).symm
  refine (k0_pay1_apply _ _ r n).trans (Finset.sum_congr rfl fun k _ => ?_)
  exact congrArg₂ (· * ·) (iblk0_apply m c t r k) (pointWeights_apply m c t k n)

/-- An index of the result array is in point `t`'s block when its coordinates are in the block's ranges. -/
theorem mem_blk (t : Fin cfg0.N) (i : S6144x4608.Idx) (h0 : 256 * (t.val % 24) ≤ (i 0).val ∧ (i 0).val < 256 * (t.val % 24) + 256)
    (h1 : 512 * (t.val / 24) ≤ (i 1).val ∧ (i 1).val < 512 * (t.val / 24) + 512) : i ∈ ((cfg0.win 3).blk t).view.set := by
  change i ∈ ((View.whole main_v1).slice (win0_3.rect t)).set
  rw [View.set_slice_whole, Rect.mem_set_unit]
  intro a
  match a with
  | ⟨0, _⟩ => change win0_3.index t 0 * 256 ≤ (i 0).val ∧ (i 0).val < win0_3.index t 0 * 256 + 256; rw [(index3 t).1]; omega
  | ⟨1, _⟩ => change win0_3.index t 1 * 512 ≤ (i 1).val ∧ (i 1).val < win0_3.index t 1 * 512 + 512; rw [(index3 t).2]; omega

/-- The blocks cover the result array. -/
theorem cover (i : S6144x4608.Idx) : ∃ t : Fin cfg0.N, (cfg0.win 3).flush t = true ∧ i ∈ ((cfg0.win 3).blk t).view.set := by
  have h0 : (i 0).val < 6144 := (i 0).isLt
  have h1 : (i 1).val < 4608 := (i 1).isLt
  have hN : cfg0.N = 216 := N_0
  refine ⟨⟨24 * ((i 1).val / 512) + (i 0).val / 256, by omega⟩, flush0_3 _, mem_blk _ _ ?_ ?_⟩ <;> dsimp only <;> omega

/-- So the result array ends holding `G`. -/
theorem final (c : Dev nD) : (dats m 0 c).arrAt 3 cfg0.N = G m c :=
  (dats m 0 c).arrAt_eq_of_cover 3 (G m c) (fun t _ => flushed_eq m c t) cover

/-- The kernel's result as a function of its arguments. -/
def result (x : Vec Ideal S6x1024x12288 .bf16) (codes : Vec Ideal S4608x6144 .i8) (scales : Vec Ideal S4608x384 .i8) : Vec Ideal S6x1024x4608 .bf16 :=
  shapeCast S6x1024x4608 (rows (shapeCast S6144x12288 x shapeCasts_S6x1024x12288_S6144x12288) codes scales) shapeCasts_S6144x4608_S6x1024x4608

/-- The reshape after the region leaves it in the program's result. -/
theorem tail_eq (c : Dev nD) : Pipeline.afterTail₀ cfgs (dats m) 0 (V0 m) [hostOps1] c main_v2
    = result (m ((c : Thread nD τ).loc main_arg0)) (m ((c : Thread nD τ).loc main_arg1)) (m ((c : Thread nD τ).loc main_arg2)) := by
  have e0 : V m c main_v0 = shapeCast S6144x12288 (m ((c : Thread nD τ).loc main_arg0)) shapeCasts_S6x1024x12288_S6144x12288 := by
    unfold V V0 hostOps0
    simp only [List.flatten_cons, List.flatten_nil, List.append_nil, StableHlo.after_cons, StableHlo.after_nil]
    exact StableHlo.reshape_result ..
  have e : Pipeline.withArrays (cfgs 0).spec c (V0 m c) (fun w => (dats m 0 c).arrAt w (cfgs 0).N) (Proc.devRef .tc main_v1) = G m c :=
    (Pipeline.withArrays_arr spec0 (by decide) c (V0 m c) _ 3).trans (final m c)
  unfold Pipeline.afterTail₀ result hostOps1
  rw [← e0]
  refine Eq.trans ?_ (congrArg (fun b => shapeCast S6x1024x4608 b shapeCasts_S6144x4608_S6x1024x4608) e)
  simp only [List.flatten_cons, List.flatten_nil, List.append_nil, StableHlo.after_cons, StableHlo.after_nil]
  exact StableHlo.reshape_result ..

/-- The kernel's run: its result at `result` of the arguments, the arguments unchanged. -/
theorem run : θ_run defs (onTc (τ := τ) (main (F := Ideal))) ⟨m, fun _ => 0, ρ⟩ (fun r => ∀ c : Dev nD,
      r.2.mem ((c : Thread nD τ).loc main_v2)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main m ρ)
end Cert.KernelIdeal.Dec
-- ==== Proof.Reference.lean ====
/-
  The reference's result at an index: codes, magnitudes, values and scales as scalar functions, and the contraction.
-/
module

public import proofs.«01_k».proof.Proof.Gen.ReferenceIdeal.Run
public import Idealize.ShloMosaic.Lib.Claim
public import Idealize.ShloMosaic.Lib.Pointwise
public import Idealize.ShloMosaic.Lib.Tactic.CleanTypes

@[expose] public section
set_option maxRecDepth 16384
noncomputable section
namespace Cert.ReferenceIdeal.Read
open Idealize.ShloMosaic Idealize.ShloMosaic.TcCoe Idealize.ShloMosaic.Tactic
open Cert.ReferenceIdeal Cert.ReferenceIdeal.Gen

/-- The codes: each byte's two four-bit fields, the low one first. -/
def codeOf (codes : Vec Ideal S4608x6144 .i8) : Vec Ideal S4608x6144x2 .i32 :=
  andi (Host.shrsi (broadcastInDim S4608x6144x2 ![0, 1, 2] bcast_S4608x6144x1_S4608x6144x2_0_1_2 (broadcastInDim S4608x6144x1 ![0, 1] bcast_S4608x6144_S4608x6144x1_0_1 (extui 32 codes natLt_8_32))) (broadcastInDim S4608x6144x2 ![0, 1, 2] bcast_S1x1x2_S4608x6144x2_0_1_2 (broadcastInDim S1x1x2 ![2] bcast_S2_S1x1x2_2 ((fun i => lit0 (S2.rowMajor i)))))) (broadcastInDim S4608x6144x2 ![] bcast_S_S4608x6144x2 (constantI S_ 32 15#32))

/-- The magnitude of each code. -/
def magOf (C : Vec Ideal S4608x6144x2 .i32) : FVec Ideal S4608x6144x2 .bf16 :=
  select (cmpi .ne (andi C (broadcastInDim S4608x6144x2 ![] bcast_S_S4608x6144x2 (constantI S_ 32 4#32))) (broadcastInDim S4608x6144x2 ![] bcast_S_S4608x6144x2 (constantI S_ 32 0#32))) (select (cmpi .ne (andi C (broadcastInDim S4608x6144x2 ![] bcast_S_S4608x6144x2 (constantI S_ 32 2#32))) (broadcastInDim S4608x6144x2 ![] bcast_S_S4608x6144x2 (constantI S_ 32 0#32))) (select (cmpi .ne (andi C (broadcastInDim S4608x6144x2 ![] bcast_S_S4608x6144x2 (constantI S_ 32 1#32))) (broadcastInDim S4608x6144x2 ![] bcast_S_S4608x6144x2 (constantI S_ 32 0#32))) (broadcastInDim S4608x6144x2 ![] bcast_S_S4608x6144x2 (constant (F := Ideal) S_ .bf16 0x40C0#16)) (broadcastInDim S4608x6144x2 ![] bcast_S_S4608x6144x2 (constant (F := Ideal) S_ .bf16 0x4080#16))) (select (cmpi .ne (andi C (broadcastInDim S4608x6144x2 ![] bcast_S_S4608x6144x2 (constantI S_ 32 1#32))) (broadcastInDim S4608x6144x2 ![] bcast_S_S4608x6144x2 (constantI S_ 32 0#32))) (broadcastInDim S4608x6144x2 ![] bcast_S_S4608x6144x2 (constant (F := Ideal) S_ .bf16 0x4040#16)) (broadcastInDim S4608x6144x2 ![] bcast_S_S4608x6144x2 (constant (F := Ideal) S_ .bf16 0x4000#16)))) (select (cmpi .ne (andi C (broadcastInDim S4608x6144x2 ![] bcast_S_S4608x6144x2 (constantI S_ 32 2#32))) (broadcastInDim S4608x6144x2 ![] bcast_S_S4608x6144x2 (constantI S_ 32 0#32))) (select (cmpi .ne (andi C (broadcastInDim S4608x6144x2 ![] bcast_S_S4608x6144x2 (constantI S_ 32 1#32))) (broadcastInDim S4608x6144x2 ![] bcast_S_S4608x6144x2 (constantI S_ 32 0#32))) (broadcastInDim S4608x6144x2 ![] bcast_S_S4608x6144x2 (constant (F := Ideal) S_ .bf16 0x3FC0#16)) (broadcastInDim S4608x6144x2 ![] bcast_S_S4608x6144x2 (constant (F := Ideal) S_ .bf16 0x3F80#16))) (select (cmpi .ne (andi C (broadcastInDim S4608x6144x2 ![] bcast_S_S4608x6144x2 (constantI S_ 32 1#32))) (broadcastInDim S4608x6144x2 ![] bcast_S_S4608x6144x2 (constantI S_ 32 0#32))) (broadcastInDim S4608x6144x2 ![] bcast_S_S4608x6144x2 (constant (F := Ideal) S_ .bf16 0x3F00#16)) (broadcastInDim S4608x6144x2 ![] bcast_S_S4608x6144x2 (constant (F := Ideal) S_ .bf16 0x0000#16))))

/-- The value of each code. -/
def valueOf (C : Vec Ideal S4608x6144x2 .i32) : FVec Ideal S4608x6144x2 .bf16 :=
  select (cmpi .ne (andi C (broadcastInDim S4608x6144x2 ![] bcast_S_S4608x6144x2 (constantI S_ 32 8#32))) (broadcastInDim S4608x6144x2 ![] bcast_S_S4608x6144x2 (constantI S_ 32 0#32))) (Host.negf (F := Ideal) (magOf C)) (magOf C)

/-- The exponent of each scale. -/
def expOf (scales : Vec Ideal S4608x384 .i8) : Vec Ideal S4608x384 .i32 :=
  subi (extui 32 scales natLt_8_32) (broadcastInDim S4608x384 ![] bcast_S_S4608x384 (constantI S_ 32 127#32))

/-- Each scale: two to its exponent. -/
def scaleOf (scales : Vec Ideal S4608x384 .i8) : FVec Ideal S4608x384 .bf16 :=
  truncf (F := Ideal) .bf16 (select (cmpi .slt (expOf scales) (broadcastInDim S4608x384 ![] bcast_S_S4608x384 (constantI S_ 32 4294967170#32))) (broadcastInDim S4608x384 ![] bcast_S_S4608x384 (constant (F := Ideal) S_ .f32 0x00000000#32)) (select (cmpi .sgt (expOf scales) (broadcastInDim S4608x384 ![] bcast_S_S4608x384 (constantI S_ 32 127#32))) (broadcastInDim S4608x384 ![] bcast_S_S4608x384 (constant (F := Ideal) S_ .f32 0x7F800000#32)) (Host.powf (broadcastInDim S4608x384 ![] bcast_S_S4608x384 (constant (F := Ideal) S_ .f32 0x40000000#32)) (sitofp .f32 (expOf scales))))) bitsLt_bf16_f32

/-- The result as a function of the arguments. -/
def result (x : FVec Ideal S6x1024x12288 .bf16) (codes : Vec Ideal S4608x6144 .i8) (scales : Vec Ideal S4608x384 .i8) : FVec Ideal S6x1024x4608 .bf16 :=
  truncf (F := Ideal) .bf16 (Host.dotGeneral dot_S6x1024x6144x2_S4608x6144x2_S6x1024x4608_23_12_01_0_n_n none (shapeCast _ x shapeCasts_S6x1024x12288_S6x1024x6144x2) (shapeCast _ (mulf (shapeCast _ (valueOf (codeOf codes)) shapeCasts_S4608x6144x2_S4608x384x16x2) (broadcastInDim S4608x384x16x2 ![0, 1, 2, 3] bcast_S4608x384x1x1_S4608x384x16x2_0_1_2_3 (broadcastInDim S4608x384x1x1 ![0, 1] bcast_S4608x384_S4608x384x1x1_0_1 (scaleOf scales)))) shapeCasts_S4608x384x16x2_S4608x6144x2)) bitsLt_bf16_f32

/-- The program's result is that function of its arguments. -/
theorem res_eq (m : (ℓ : Loc nD τ sig) → Buf (Elt Ideal) ℓ) (c : Dev nD) : Value.res_main_v53 m c
    = result (m ((c.tc : Thread nD τ).loc main_arg0)) (m ((c.tc : Thread nD τ).loc main_arg1)) (m ((c.tc : Thread nD τ).loc main_arg2)) := rfl

/-- Field `t` of a byte: its low four bits, then its high four. -/
def nibble (b : BitVec 8) (t : Fin 2) : BitVec 32 :=
  IntOp.andi (IntOp.shrsi ArithUnit.host (b.setWidth 32) (lit0 (S2.rowMajor (ix1 t)))) 15#32

/-- The magnitude of a code: a table of eight values, by the bits 4, 2 and 1. -/
def magnitude (v : BitVec 32) : EReal :=
  Scalar.select (IntOp.cmpi .ne (IntOp.andi v 4#32) 0#32)
    (Scalar.select (IntOp.cmpi .ne (IntOp.andi v 2#32) 0#32)
      (Scalar.select (IntOp.cmpi .ne (IntOp.andi v 1#32) 0#32) (Ideal.ofBits .bf16 0x40C0#16) (Ideal.ofBits .bf16 0x4080#16))
      (Scalar.select (IntOp.cmpi .ne (IntOp.andi v 1#32) 0#32) (Ideal.ofBits .bf16 0x4040#16) (Ideal.ofBits .bf16 0x4000#16)))
    (Scalar.select (IntOp.cmpi .ne (IntOp.andi v 2#32) 0#32)
      (Scalar.select (IntOp.cmpi .ne (IntOp.andi v 1#32) 0#32) (Ideal.ofBits .bf16 0x3FC0#16) 1)
      (Scalar.select (IntOp.cmpi .ne (IntOp.andi v 1#32) 0#32) (Ideal.ofBits .bf16 0x3F00#16) 0))

/-- The value of a code: the magnitude, negated where bit 8 is set. -/
def value (v : BitVec 32) : EReal :=
  Scalar.select (IntOp.cmpi .ne (IntOp.andi v 8#32) 0#32) (-magnitude v) (magnitude v)

/-- A scale byte's exponent. -/
def exponent (s : BitVec 8) : BitVec 32 := IntOp.subi (s.setWidth 32) 127#32

/-- A scale byte's value: two to the exponent, zero and infinity past the two ends of the format. -/
def scale (s : BitVec 8) : EReal :=
  Scalar.select (IntOp.cmpi .slt (exponent s) 4294967170#32) 0
    (Scalar.select (IntOp.cmpi .sgt (exponent s) 127#32) (Ideal.ofBits .f32 0x7F800000#32)
      (Ideal.pow (Ideal.ofBits .f32 0x40000000#32) (((exponent s).toInt : ℝ) : EReal)))

/-- A code at an index. -/
theorem codeOf_apply (codes : Vec Ideal S4608x6144 .i8) (n : Fin 4608) (j : Fin 6144) (t : Fin 2) :
    codeOf codes (ix3 n j t) = nibble (codes (ix2 n j)) t := by
  unfold codeOf nibble; pointwise

/-- A magnitude at an index. -/
theorem magOf_apply (C : Vec Ideal S4608x6144x2 .i32) (i : S4608x6144x2.Idx) : magOf C i = magnitude (C i) := by
  unfold magOf magnitude; pointwise

/-- A value at an index. -/
theorem valueOf_apply (C : Vec Ideal S4608x6144x2 .i32) (i : S4608x6144x2.Idx) : valueOf C i = value (C i) := by
  unfold valueOf value; rw [← magOf_apply]; pointwise

/-- An exponent at an index. -/
theorem expOf_apply (scales : Vec Ideal S4608x384 .i8) (i : S4608x384.Idx) : expOf scales i = exponent (scales i) := by
  unfold expOf exponent; pointwise

/-- A scale at an index. -/
theorem scaleOf_apply (scales : Vec Ideal S4608x384 .i8) (i : S4608x384.Idx) : scaleOf scales i = scale (scales i) := by
  unfold scaleOf scale; rw [← expOf_apply]; pointwise; rfl

/-- The result at an index: the contraction over the packed pairs and the two fields of each. -/
theorem result_apply (x : FVec Ideal S6x1024x12288 .bf16) (codes : Vec Ideal S4608x6144 .i8) (scales : Vec Ideal S4608x384 .i8)
    (b : Fin 6) (s : Fin 1024) (n : Fin 4608) :
    result x codes scales (ix3 b s n) = ∑ j : Fin 6144, ∑ t : Fin 2,
      x (ix3 b s (⟨j.val * 2 + t.val, by omega⟩ : Fin 12288))
        * (value (nibble (codes (ix2 n j)) t) * scale (scales (ix2 n (⟨j.val / 16, by omega⟩ : Fin 384)))) := by
  simp only [← scaleOf_apply, ← codeOf_apply, ← valueOf_apply]
  unfold result; clean_types; pointwise
end Cert.ReferenceIdeal.Read
-- ==== Proof.Weight.lean ====
/-
  The equation of one weight: what the kernel decodes by bit patterns is the reference's table value times its power of two.
-/
module

public import proofs.«01_k».proof.Proof.Scratch
public import proofs.«01_k».proof.Proof.Reference
public import Idealize.ShloMosaic.Lib.IdealHost

@[expose] public section
set_option maxRecDepth 16384
noncomputable section
namespace Cert.Weight
open Idealize.ShloMosaic Idealize.ShloMosaic.TcCoe Idealize.ShloMosaic.Tactic
open Cert.KernelIdeal.Dec Cert.ReferenceIdeal.Read

/-- The kernel's magnitude pattern of a field: the field's low three bits, seven places up, over the pattern of one half. -/
theorem mag_bits : ∀ (b : Fin 256) (t : Fin 2), (magWord ((BitVec.ofFin (w := 8) b).zeroExtend 32)).extractLsb' (16 * t.val) 16
    = 0x3F00#16 + ((nibble (BitVec.ofFin (w := 8) b) t &&& 7#32).setWidth 16 <<< 6) := by decide +kernel

/-- The kernel's sign pattern of a field: the field's top bit, on the pattern of one. -/
theorem sgn_bits : ∀ (b : Fin 256) (t : Fin 2), (sgnWord ((BitVec.ofFin (w := 8) b).zeroExtend 32)).extractLsb' (16 * t.val) 16
    = 0x3F80#16 ||| ((nibble (BitVec.ofFin (w := 8) b) t &&& 8#32).setWidth 16 <<< 12) := by decide +kernel

/-- The kernel's scale pattern: the byte in the exponent's place. -/
theorem scl_bits : ∀ (s : Fin 256) (t : Fin 2), (sclWord ((BitVec.ofFin (w := 8) s).zeroExtend 32)).extractLsb' (16 * t.val) 16
    = BitVec.ofNat 16 (128 * s.val) := by decide +kernel

/-- A field is one of sixteen codes. -/
theorem nibble_code : ∀ (b : Fin 256) (t : Fin 2), ∃ v : Fin 16, nibble (BitVec.ofFin (w := 8) b) t = BitVec.ofNat 32 v.val := by decide +kernel

/-- The bf16 pattern of 1/2. -/
theorem bits_half : Ideal.ofBits .bf16 0x3F00#16 = ((1 / 2 : ℝ) : EReal) := by
  simp [Ideal.ofBits, Ideal.ieee, -EReal.coe_mul]; norm_num
/-- The bf16 pattern of 3/4. -/
theorem bits_three_quarters : Ideal.ofBits .bf16 0x3F40#16 = ((3 / 4 : ℝ) : EReal) := by
  simp [Ideal.ofBits, Ideal.ieee, -EReal.coe_mul]; norm_num
/-- The bf16 pattern of 3/2. -/
theorem bits_three_halves : Ideal.ofBits .bf16 0x3FC0#16 = ((3 / 2 : ℝ) : EReal) := by
  simp [Ideal.ofBits, Ideal.ieee, -EReal.coe_mul]; norm_num
/-- The bf16 pattern of 2. -/
theorem bits_two : Ideal.ofBits .bf16 0x4000#16 = ((2 : ℝ) : EReal) := by
  simp [Ideal.ofBits, Ideal.ieee, -EReal.coe_mul]; norm_num
/-- The bf16 pattern of 3. -/
theorem bits_three : Ideal.ofBits .bf16 0x4040#16 = ((3 : ℝ) : EReal) := by
  simp [Ideal.ofBits, Ideal.ieee, -EReal.coe_mul]; norm_num
/-- The bf16 pattern of 4. -/
theorem bits_four : Ideal.ofBits .bf16 0x4080#16 = ((4 : ℝ) : EReal) := by
  simp [Ideal.ofBits, Ideal.ieee, -EReal.coe_mul]; norm_num
/-- The bf16 pattern of 6. -/
theorem bits_six : Ideal.ofBits .bf16 0x40C0#16 = ((6 : ℝ) : EReal) := by
  simp [Ideal.ofBits, Ideal.ieee, -EReal.coe_mul]; norm_num

/-- The smaller of a real and its double less one. -/
theorem min_double (r : ℝ) : min (r : EReal) (r + (r - 1)) = ((min r (r + (r - 1)) : ℝ) : EReal) := by
  norm_cast

/-- The same at one. -/
theorem min_double_one : min (1 : EReal) (1 + (1 - 1)) = 1 := by
  have h := min_double 1
  norm_num at h ⊢
  exact h

/-- The kernel's minimum undoes the subnormal's implicit one: the magnitude pattern's value, and the smaller of it and of
    its double less one, give the reference's eight magnitudes; the sign pattern gives the sign. -/
theorem code_value (v : Fin 16) :
    min (Ideal.ofBits .bf16 (0x3F00#16 + ((BitVec.ofNat 32 v.val &&& 7#32).setWidth 16 <<< 6)))
        (Ideal.ofBits .bf16 (0x3F00#16 + ((BitVec.ofNat 32 v.val &&& 7#32).setWidth 16 <<< 6))
          + (Ideal.ofBits .bf16 (0x3F00#16 + ((BitVec.ofNat 32 v.val &&& 7#32).setWidth 16 <<< 6)) - Ideal.ofBits .bf16 0x3F80#16))
      * Ideal.ofBits .bf16 (0x3F80#16 ||| ((BitVec.ofNat 32 v.val &&& 8#32).setWidth 16 <<< 12))
      = value (BitVec.ofNat 32 v.val) := by
  have h1 : Ideal.ofBits .bf16 0x3F80#16 = ((1 : ℝ) : EReal) := Ideal.ofBits_one_bf16
  have hm : Ideal.ofBits .bf16 0xBF80#16 = ((-1 : ℝ) : EReal) := Ideal.ofBits_neg_one_bf16
  fin_cases v <;>
  simp [value, magnitude, Scalar.select, IntOp.cmpi, IntOp.andi, h1, hm, bits_half, bits_three_quarters, bits_three_halves, bits_two, bits_three, bits_four, bits_six,
    min_double, min_double_one] <;>
  norm_num

/-- The kernel's scale pattern has sign 0, the scale byte as exponent and no fraction. -/
theorem scale_pattern : ∀ s : Fin 256, (BitVec.ofNat 16 (128 * s.val)).extractLsb' 15 1 = 0#1
    ∧ ((BitVec.ofNat 16 (128 * s.val)).extractLsb' 7 8).toNat = s.val ∧ ((BitVec.ofNat 16 (128 * s.val)).extractLsb' 0 7).toNat = 0 := by
  decide +kernel

/-- The reference's exponent of a scale byte, and where its two comparisons hold: at the byte 0 and at the byte 255. -/
theorem exponent_eq : ∀ s : Fin 256, (exponent (BitVec.ofFin (w := 8) s)).toInt = (s.val : Int) - 127
    ∧ IntOp.cmpi .slt (exponent (BitVec.ofFin (w := 8) s)) 4294967170#32 = (if s.val = 0 then 1#1 else 0#1)
    ∧ IntOp.cmpi .sgt (exponent (BitVec.ofFin (w := 8) s)) 127#32 = (if s.val = 255 then 1#1 else 0#1) := by
  decide +kernel

/-- The f32 pattern of infinity. -/
theorem bits_top : Ideal.ofBits .f32 0x7F800000#32 = ⊤ := by
  simp [Ideal.ofBits, Ideal.ieee]

/-- The f32 pattern of 2. -/
theorem bits_two_f32 : Ideal.ofBits .f32 0x40000000#32 = ((2 : ℝ) : EReal) := by
  simp [Ideal.ofBits, Ideal.ieee, -EReal.coe_mul]; norm_num

/-- The bf16 pattern with the scale byte in the exponent's place is the reference's scale: zero at 0, infinity at 255, a
    power of two between. -/
theorem scale_value (s : Fin 256) : Ideal.ofBits .bf16 (BitVec.ofNat 16 (128 * s.val)) = scale (BitVec.ofFin (w := 8) s) := by
  obtain ⟨p1, p2, p3⟩ := scale_pattern s
  obtain ⟨e1, e2, e3⟩ := exponent_eq s
  unfold scale
  rw [e1, e2, e3, bits_top, bits_two_f32, Ideal.pow_coe_coe]
  change Ideal.ieee 8 7 (BitVec.ofNat 16 (128 * s.val)) = _
  unfold Ideal.ieee
  simp only [p1, p2, p3]
  have hs := s.isLt
  by_cases h0 : s.val = 0
  · simp [h0, Scalar.select]
  by_cases h1 : s.val = 255
  · simp [h1, Scalar.select]
  rw [if_neg (by omega), if_neg h0, if_neg h0, if_neg h1]
  have hz : (0#1 : BitVec 1) ≠ 1 := by decide
  simp only [Scalar.select, if_neg hz]
  refine congrArg _ ?_
  refine Eq.trans ?_ (Real.rpow_intCast 2 ((s.val : Int) - 127)).symm
  rw [show (s.val : Int) - 127 = ((s.val : Int) - (2 ^ (8 - 1) - 1) - (7 : Nat)) + 7 by norm_num, zpow_add₀ (by norm_num)]
  norm_num
  ring

/-- THE WEIGHT: what the kernel decodes from a code byte's field and a scale byte is the reference's value times its scale. -/
theorem dec_eq (b s : BitVec 8) (t : Fin 2) :
    dec (b.zeroExtend 32) (sclWord (s.zeroExtend 32)) t.val = value (nibble b t) * scale s := by
  obtain ⟨b⟩ := b
  obtain ⟨s⟩ := s
  obtain ⟨v, hv⟩ := nibble_code b t
  have hm := mag_bits b t
  have hs := sgn_bits b t
  rw [hv] at hm hs
  unfold dec half
  rw [hm, hs, scl_bits s t, hv, ← code_value v, scale_value s, mul_right_comm]
end Cert.Weight
-- ==== Proof.Equation.lean ====
/-
  The kernel's result and the reference's, as functions of the arguments, are equal.
-/
module

public import proofs.«01_k».proof.Proof.Result
public import proofs.«01_k».proof.Proof.Weight

@[expose] public section
set_option maxRecDepth 16384
noncomputable section
namespace Cert.Equation
open Idealize.ShloMosaic Idealize.ShloMosaic.TcCoe Idealize.ShloMosaic.Tactic
open Cert.KernelIdeal Cert.KernelIdeal.Gen Cert.KernelIdeal.Dec Cert.Weight

/-- A sum over the input columns, by the packed pair and the field in it. -/
theorem sum_pairs (f : Fin 12288 → EReal) : ∑ k, f k = ∑ j : Fin 6144, ∑ t : Fin 2, f ⟨j.val * 2 + t.val, by omega⟩ := by
  rw [← Fintype.sum_prod_type' (f := fun (j : Fin 6144) (t : Fin 2) => f ⟨j.val * 2 + t.val, by omega⟩)]
  refine (Fintype.sum_equiv (finProdFinEquiv (m := 6144) (n := 2)) _ _ fun p => congrArg f (Fin.ext ?_)).symm
  change p.1.val * 2 + p.2.val = p.2.val + 2 * p.1.val
  omega

/-- The kernel's weight at column `2 j + t` is the reference's at pair `j`, field `t`. -/
theorem weight_eq (codes : Vec Ideal S4608x6144 .i8) (scales : Vec Ideal S4608x384 .i8) (n : Fin 4608) (j : Fin 6144) (t : Fin 2) :
    weight codes scales n ⟨j.val * 2 + t.val, by omega⟩
      = ReferenceIdeal.Read.value (ReferenceIdeal.Read.nibble (codes (ix2 n j)) t)
        * ReferenceIdeal.Read.scale (scales (ix2 n (⟨j.val / 16, by omega⟩ : Fin 384))) := by
  have e1 : (⟨(j.val * 2 + t.val) / 2, by omega⟩ : Fin 6144) = j := Fin.ext (by dsimp only; omega)
  have e2 : (⟨(j.val * 2 + t.val) / 32, by omega⟩ : Fin 384) = ⟨j.val / 16, by omega⟩ := Fin.ext (by dsimp only; omega)
  have e3 : (j.val * 2 + t.val) % 2 = t.val := by omega
  unfold weight
  rw [e1, e2, e3]
  exact dec_eq _ _ t

/-- The kernel's result is the reference's, as functions of the arguments. -/
theorem result_eq (x : Vec Ideal S6x1024x12288 .bf16) (codes : Vec Ideal S4608x6144 .i8) (scales : Vec Ideal S4608x384 .i8) :
    Dec.result x codes scales = ReferenceIdeal.Read.result x codes scales := by
  funext i
  obtain ⟨b, s, n, rfl⟩ : ∃ (b : Fin 6) (s : Fin 1024) (n : Fin 4608), i = ix3 b s n := ⟨i 0, i 1, i 2, eq_ix3 (n0 := 6) (n1 := 1024) (n2 := 4608) i⟩
  refine Eq.trans ?_ (ReferenceIdeal.Read.result_apply x codes scales b s n).symm
  have e : Dec.result x codes scales (ix3 b s n) = ∑ k : Fin 12288, x (ix3 b s k) * weight codes scales n k := by
    unfold Dec.result
    pointwise
    refine Finset.sum_congr rfl fun k _ => congrArg (· * weight codes scales n k) ?_
    change shapeCast S6144x12288 x shapeCasts_S6x1024x12288_S6144x12288 (ix2 (⟨b.val * 1024 + s.val, by omega⟩ : Fin 6144) k) = _
    pointwise
  rw [e, sum_pairs]
  refine Finset.sum_congr rfl fun j _ => Finset.sum_congr rfl fun t _ => ?_
  rw [weight_eq]
end Cert.Equation
-- ==== Proof.lean ====
/-
  The proof of `Cert.Claim`: the three frames, the ideal pass (it rewrote nothing) and the value claim.

    Proof/Group.lean      one group of rows of one trip: the decoded weights as a function of code and scale words
    Proof/Trip.lean       what one trip of the loop stores
    Proof/Scratch.lean    what the loop leaves in the scratch: the decoded weights of the point's codes and scales
    Proof/Block.lean      what one point leaves in the output block: the activations times the scratch
    Proof/Array.lean      every point of the grid, by induction: scratch and output block
    Proof/Result.lean     the result array, and the kernel's run with its result a function of the arguments
    Proof/Reference.lean  the reference's result at an index
    Proof/Weight.lean     the equation of one weight
    Proof/Equation.lean   the equation of the results
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference's frame: its run leaves the arguments, and it has no semaphore. -/
theorem quiescent_reference : Cert.quiescent_ReferenceIdeal := fun m ρ _ =>
  (θ_run Cert.ReferenceIdeal.defs _ _).mono
    (fun r h => ⟨fun c => (h c).2, Idealize.ShloMosaic.sem_eq_zero_of_no_sems (by decide) r.2⟩) (Cert.ReferenceIdeal.Value.run m ρ)

/-- The value claim: both results are one function of the arguments. -/
theorem algebraic : Cert.algebraic_KernelIdeal_ReferenceIdeal := fun m g m' g' _ hargs =>
  ⟨fun c => Cert.KernelIdeal.Dec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Dec.run m g,
    (θ_run Cert.ReferenceIdeal.defs _ _).mono (fun r h c => by
      obtain ⟨e0, e1, e2⟩ := hargs c
      refine ⟨(h c).1.trans ((Cert.ReferenceIdeal.Read.res_eq m' c).trans ?_), (h c).2⟩
      rw [e0, e1, e2]
      exact (Cert.Equation.result_eq _ _ _).symm) (Cert.ReferenceIdeal.Value.run m' g')⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_reference, trivial, algebraic⟩

end Cert.Proof

end
